-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_every_cluster_met [hPre_finite_and_every_cluster_met : Cert.Pre_finite_and_every_cluster_met.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_every_cluster_met.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_every_cluster_met.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_every_cluster_met [hPre_finite_and_every_cluster_met : Cert.Pre_finite_and_every_cluster_met.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_every_cluster_met.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_and_every_cluster_met.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_every_cluster_met [hKernelIdeal : Cert.KernelIdeal.Facts] [hPre_finite_and_every_cluster_met : Cert.Pre_finite_and_every_cluster_met.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_every_cluster_met m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_every_cluster_met [hReferenceIdeal : Cert.ReferenceIdeal.Facts] [hPre_finite_and_every_cluster_met : Cert.Pre_finite_and_every_cluster_met.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_every_cluster_met m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_every_cluster_met [hKernelIdeal : Cert.KernelIdeal.Facts] [hReferenceIdeal : Cert.ReferenceIdeal.Facts] [hPre_finite_and_every_cluster_met : Cert.Pre_finite_and_every_cluster_met.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_every_cluster_met m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v0_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_v7) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_every_cluster_met : Cert.Pre_finite_and_every_cluster_met.Facts),
    quiescent_Kernel (hKernel := hKernel)
    ∧ quiescent_KernelIdeal (hKernelIdeal := hKernelIdeal)
    ∧ quiescent_KernelIdeal_pre_finite_and_every_cluster_met (hKernelIdeal := hKernelIdeal) (hPre_finite_and_every_cluster_met := hPre_finite_and_every_cluster_met)
    ∧ quiescent_ReferenceIdeal (hReferenceIdeal := hReferenceIdeal)
    ∧ quiescent_ReferenceIdeal_pre_finite_and_every_cluster_met (hReferenceIdeal := hReferenceIdeal) (hPre_finite_and_every_cluster_met := hPre_finite_and_every_cluster_met)
    ∧ preserves_Kernel_KernelIdeal
    ∧ algebraic_KernelIdeal_ReferenceIdeal_pre_finite_and_every_cluster_met (hKernelIdeal := hKernelIdeal) (hReferenceIdeal := hReferenceIdeal) (hPre_finite_and_every_cluster_met := hPre_finite_and_every_cluster_met)
-- ==== Pre_finite_and_every_cluster_met.lean ====
abbrev S4x64x128x128 : Shape := ⟨4, ![4, 64, 128, 128]⟩
abbrev S4x128x128 : Shape := ⟨3, ![4, 128, 128]⟩
abbrev S4x1x16384 : Shape := ⟨3, ![4, 1, 16384]⟩
abbrev S8 : Shape := ⟨1, ![8]⟩
abbrev S1x8x1 : Shape := ⟨3, ![1, 8, 1]⟩
abbrev S4x8x16384 : Shape := ⟨3, ![4, 8, 16384]⟩
abbrev S_ : Shape := ⟨0, ![]⟩
abbrev S4x8 : Shape := ⟨2, ![4, 8]⟩

class Facts : Prop where
  shapeCasts_S4x128x128_S4x1x16384 : S4x128x128.ShapeCasts S4x1x16384
  bcast_S8_S1x8x1_1 : S8.BroadcastsInDim S1x8x1 (![1] : Fin 1 → Fin S1x8x1.rank)
  bcast_S4x1x16384_S4x8x16384_0_1_2 : S4x1x16384.BroadcastsInDim S4x8x16384 (![0, 1, 2] : Fin 3 → Fin S4x8x16384.rank)
  bcast_S1x8x1_S4x8x16384_0_1_2 : S1x8x1.BroadcastsInDim S4x8x16384 (![0, 1, 2] : Fin 3 → Fin S4x8x16384.rank)
  reducesTo_S4x8x16384_S4x8_d2 : S4x8x16384.ReducesTo [2] S4x8
  h_S_ : 0 < S_.numel
  bcast_S_S4x64x128x128 : S_.BroadcastsInDim S4x64x128x128 (![] : Fin 0 → Fin S4x64x128x128.rank)

variable [Facts]

def fn {F : FTy → Type} [FloatOps F] (main_arg0 : FVec F S4x64x128x128 .f32) (main_arg1 : IVec S4x128x128 32) : IVec S4x64x128x128 1 × IVec S4x8 1 :=
  let main_v0 : IVec S4x1x16384 32 := shapeCast S4x1x16384 main_arg1 shapeCasts_S4x128x128_S4x1x16384
  let main_v1 : IVec S8 32 := iotaInDim S8 32 0
  let main_v2 : IVec S1x8x1 32 := broadcastInDim S1x8x1 ![1] bcast_S8_S1x8x1_1 main_v1
  let main_v3 : IVec S4x8x16384 32 := broadcastInDim S4x8x16384 ![0, 1, 2] bcast_S4x1x16384_S4x8x16384_0_1_2 main_v0
  let main_v4 : IVec S4x8x16384 32 := broadcastInDim S4x8x16384 ![0, 1, 2] bcast_S1x8x1_S4x8x16384_0_1_2 main_v2
  let main_v5 : IVec S4x8x16384 1 := cmpi .eq main_v3 main_v4
  let main_c : IVec S_ 1 := constantI S_ 1 0#1
  let main_v6 : IVec S4x8 1 := (fun x v => Host.reduce IntOp.ori x v reducesTo_S4x8x16384_S4x8_d2 h_S_) main_v5 main_c
  let main_v7 : FVec F S4x64x128x128 .f32 := Host.absf main_arg0
  let main_cst : FVec F S_ .f32 := constant S_ .f32 0x7F800000#32
  let main_v8 : FVec F S4x64x128x128 .f32 := broadcastInDim S4x64x128x128 ![] bcast_S_S4x64x128x128 main_cst
  let main_v9 : IVec S4x64x128x128 1 := cmpf .olt main_v7 main_v8
  (main_v9, main_v6)
-- ==== Kernel.lean ====
abbrev S4x64x128x128 : Shape := ⟨4, ![4, 64, 128, 128]⟩
abbrev S4x128x128 : Shape := ⟨3, ![4, 128, 128]⟩
abbrev S4x64x8 : Shape := ⟨3, ![4, 64, 8]⟩
abbrev S1x1x1 : Shape := ⟨3, ![1, 1, 1]⟩
abbrev S1x64x128x128 : Shape := ⟨4, ![1, 64, 128, 128]⟩
abbrev S1x128x128 : Shape := ⟨3, ![1, 128, 128]⟩
abbrev S1x64x8 : Shape := ⟨3, ![1, 64, 8]⟩
abbrev S1x128 : Shape := ⟨2, ![1, 128]⟩
abbrev S64x128x128 : Shape := ⟨3, ![64, 128, 128]⟩
abbrev S128x128 : Shape := ⟨2, ![128, 128]⟩
abbrev S64x16384 : Shape := ⟨2, ![64, 16384]⟩
abbrev S1x16384 : Shape := ⟨2, ![1, 16384]⟩
abbrev S8x16384 : Shape := ⟨2, ![8, 16384]⟩
abbrev S8 : Shape := ⟨1, ![8]⟩
abbrev S8x1 : Shape := ⟨2, ![8, 1]⟩
abbrev S8x64 : Shape := ⟨2, ![8, 64]⟩
abbrev S16384 : Shape := ⟨1, ![16384]⟩
abbrev S1x8x1 : Shape := ⟨3, ![1, 8, 1]⟩
abbrev S1 : Shape := ⟨1, ![1]⟩
abbrev S8x8 : Shape := ⟨2, ![8, 8]⟩
abbrev S1x8 : Shape := ⟨2, ![1, 8]⟩
abbrev S64x8 : Shape := ⟨2, ![64, 8]⟩
abbrev S1x1x128 : Shape := ⟨3, ![1, 1, 128]⟩
abbrev S1x1 : Shape := ⟨2, ![1, 1]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S4x64x128x128, .f32⟩
  | .hbm, ⟨1, _⟩ => ⟨S4x128x128, .i32⟩
  | .hbm, ⟨2, _⟩ => ⟨S4x64x8, .f32⟩
  | .hbm, ⟨3, _⟩ => ⟨S1x1x1, .f32⟩
  | .hbm, ⟨4, _⟩ => ⟨S1x1x1, .f32⟩
  | .hbm, ⟨5, _⟩ => ⟨S1x1x1, .f32⟩
  | .hbm, ⟨6, _⟩ => ⟨S1x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x64x128x128, .f32⟩
  | .local _ .vmem, ⟨1, _⟩ => ⟨S1x64x128x128, .f32⟩
  | .local _ .vmem, ⟨2, _⟩ => ⟨S1x128x128, .i32⟩
  | .local _ .vmem, ⟨3, _⟩ => ⟨S1x128x128, .i32⟩
  | .local _ .vmem, ⟨4, _⟩ => ⟨S1x64x8, .f32⟩
  | .local _ .vmem, ⟨5, _⟩ => ⟨S1x64x8, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x128, .f32⟩
  | _, _ => ⟨S4x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v124 : BitVec 1 := Scalar.cmpi .eq arg0 c3_i32
  let v125 : BitVec 32 := Scalar.extui v124
  let c0_i32_39 : BitVec 32 := 0#32
  let v126 : BitVec 1 := Scalar.cmpi .ne v125 c0_i32_39
  v126

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x64x128x128 : Shape := ⟨4, ![4, 64, 128, 128]⟩
abbrev S4x128x128 : Shape := ⟨3, ![4, 128, 128]⟩
abbrev S4x64x16384 : Shape := ⟨3, ![4, 64, 16384]⟩
abbrev S4x16384 : Shape := ⟨2, ![4, 16384]⟩
abbrev S4x16384x1 : Shape := ⟨3, ![4, 16384, 1]⟩
abbrev S1x8 : Shape := ⟨2, ![1, 8]⟩
abbrev S1x1x8 : Shape := ⟨3, ![1, 1, 8]⟩
abbrev S4x16384x8 : Shape := ⟨3, ![4, 16384, 8]⟩
abbrev S_ : Shape := ⟨0, ![]⟩
abbrev S4x8 : Shape := ⟨2, ![4, 8]⟩
abbrev S4x64x8 : Shape := ⟨3, ![4, 64, 8]⟩
abbrev S4x1x8 : Shape := ⟨3, ![4, 1, 8]⟩
abbrev S4 : Shape := ⟨1, ![4]⟩
abbrev S4x64x8x1 : Shape := ⟨4, ![4, 64, 8, 1]⟩
abbrev S4x64x1x8 : Shape := ⟨4, ![4, 64, 1, 8]⟩
abbrev S4x64x8x8 : Shape := ⟨4, ![4, 64, 8, 8]⟩
abbrev S4x8x8 : Shape := ⟨3, ![4, 8, 8]⟩
abbrev S8x8 : Shape := ⟨2, ![8, 8]⟩
abbrev S1x8x8 : Shape := ⟨3, ![1, 8, 8]⟩

abbrev nBuf : Space → Nat
  | .hbm => 115
  | .vmem => 0
  | .smem => 0
  | _ => 0

abbrev bufTy : (tb : Table) → Fin (tcTables nBuf tb) → BufTy
  | .hbm, ⟨0, _⟩ => ⟨S4x64x128x128, .f32⟩
  | .hbm, ⟨1, _⟩ => ⟨S4x128x128, .i32⟩
  | .hbm, ⟨2, _⟩ => ⟨S4x64x16384, .f32⟩
  | .hbm, ⟨3, _⟩ => ⟨S4x16384, .i32⟩
  | .hbm, ⟨4, _⟩ => ⟨S4x16384x1, .i32⟩
  | .hbm, ⟨5, _⟩ => ⟨S1x8, .i32⟩
  | .hbm, ⟨6, _⟩ => ⟨S1x1x8, .i32⟩
  | .hbm, ⟨7, _⟩ => ⟨S4x16384x8, .i32⟩
  | .hbm, ⟨8, _⟩ => ⟨S4x16384x8, .i32⟩
  | .hbm, ⟨9, _⟩ => ⟨S4x16384x8, .i1⟩
  | .hbm, ⟨10, _⟩ => ⟨S4x16384x8, .f32⟩
  | .hbm, ⟨11, _⟩ => ⟨S_, .f32⟩
  | .hbm, ⟨12, _⟩ => ⟨S4x8, .f32⟩
  | .hbm, ⟨13, _⟩ => ⟨S4x64x8, .f32⟩
  | .hbm, ⟨14, _⟩ => ⟨S4x1x8, .f32⟩
  | .hbm, ⟨15, _⟩ => ⟨S4x64x8, .f32⟩
  | .hbm, ⟨16, _⟩ => ⟨S4x64x8, .f32⟩
  | .hbm, ⟨17, _⟩ => ⟨S_, .i32⟩
  | .hbm, ⟨18, _⟩ => ⟨S4x16384, .i32⟩
  | .hbm, ⟨19, _⟩ => ⟨S4x16384, .i1⟩
  | .hbm, ⟨20, _⟩ => ⟨S_, .i32⟩
  | .hbm, ⟨21, _⟩ => ⟨S4x16384, .i32⟩
  | .hbm, ⟨22, _⟩ => ⟨S4x16384, .i32⟩
  | .hbm, ⟨23, _⟩ => ⟨S4x16384, .i32⟩
  | .hbm, ⟨24, _⟩ => ⟨S4x16384x1, .i32⟩
  | .hbm, ⟨25, _⟩ => ⟨S4x64x16384, .f32⟩
  | .hbm, ⟨26, _⟩ => ⟨S4x64x16384, .f32⟩
  | .hbm, ⟨27, _⟩ => ⟨S4x64x16384, .f32⟩
  | .hbm, ⟨28, _⟩ => ⟨S_, .f32⟩
  | .hbm, ⟨29, _⟩ => ⟨S4x16384, .f32⟩
  | .hbm, ⟨30, _⟩ => ⟨S4x16384, .f32⟩
  | .hbm, ⟨31, _⟩ => ⟨S4x8, .f32⟩
  | .hbm, ⟨32, _⟩ => ⟨S4x8, .f32⟩
  | .hbm, ⟨33, _⟩ => ⟨S_, .f32⟩
  | .hbm, ⟨34, _⟩ => ⟨S4x8, .f32⟩
  | .hbm, ⟨35, _⟩ => ⟨S4x8, .f32⟩
  | .hbm, ⟨36, _⟩ => ⟨S_, .f32⟩
  | .hbm, ⟨37, _⟩ => ⟨S4x8, .f32⟩
  | .hbm, ⟨38, _⟩ => ⟨S4x8, .f32⟩
  | .hbm, ⟨39, _⟩ => ⟨S4x8, .f32⟩
  | .hbm, ⟨40, _⟩ => ⟨S_, .f32⟩
  | .hbm, ⟨41, _⟩ => ⟨S4, .f32⟩
  | .hbm, ⟨42, _⟩ => ⟨S_, .f32⟩
  | .hbm, ⟨43, _⟩ => ⟨S4x8, .f32⟩
  | .hbm, ⟨44, _⟩ => ⟨S4x8, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S4x64x8x1, .f32⟩
  | .hbm, ⟨49, _⟩ => ⟨S4x64x1x8, .f32⟩
  | .hbm, ⟨50, _⟩ => ⟨S4x64x8x8, .f32⟩
  | .hbm, ⟨51, _⟩ => ⟨S4x64x8x8, .f32⟩
  | .hbm, ⟨52, _⟩ => ⟨S4x64x8x8, .f32⟩
  | .hbm, ⟨53, _⟩ => ⟨S4x64x8x8, .f32⟩
  | .hbm, ⟨54, _⟩ => ⟨S_, .f32⟩
  | .hbm, ⟨55, _⟩ => ⟨S4x8x8, .f32⟩
  | .hbm, ⟨56, _⟩ => ⟨S8x8, .i32⟩
  | .hbm, ⟨57, _⟩ => ⟨S8x8, .i32⟩
  | .hbm, ⟨58, _⟩ => ⟨S_, .i32⟩
  | .hbm, ⟨59, _⟩ => ⟨S8x8, .i32⟩
  | .hbm, ⟨60, _⟩ => ⟨S8x8, .i32⟩
  | .hbm, ⟨61, _⟩ => ⟨S8x8, .i1⟩
  | .hbm, ⟨62, _⟩ => ⟨S8x8, .f32⟩
  | .hbm, ⟨63, _⟩ => ⟨S1x8x8, .f32⟩
  | .hbm, ⟨64, _⟩ => ⟨S4x8x8, .f32⟩
  | .hbm, ⟨65, _⟩ => ⟨S4x8x8, .f32⟩
  | .hbm, ⟨66, _⟩ => ⟨S4x8x8, .f32⟩
  | .hbm, ⟨67, _⟩ => ⟨S_, .f32⟩
  | .hbm, ⟨68, _⟩ => ⟨S8x8, .f32⟩
  | .hbm, ⟨69, _⟩ => ⟨S8x8, .f32⟩
  | .hbm, ⟨70, _⟩ => ⟨S1x8x8, .f32⟩
  | .hbm, ⟨71, _⟩ => ⟨S4x8x8, .f32⟩
  | .hbm, ⟨72, _⟩ => ⟨S4x8x8, .f32⟩
  | .hbm, ⟨73, _⟩ => ⟨S_, .f32⟩
  | .hbm, ⟨74, _⟩ => ⟨S4x8, .f32⟩
  | .hbm, ⟨75, _⟩ => ⟨S_, .f32⟩
  | .hbm, ⟨76, _⟩ => ⟨S4x8, .f32⟩
  | .hbm, ⟨77, _⟩ => ⟨S4x8, .f32⟩
  | .hbm, ⟨78, _⟩ => ⟨S_, .f32⟩
  | .hbm, ⟨79, _⟩ => ⟨S4x8, .f32⟩
  | .hbm, ⟨80, _⟩ => ⟨S4x8, .f32⟩
  | .hbm, ⟨81, _⟩ => ⟨S_, .f32⟩
  | .hbm, ⟨82, _⟩ => ⟨S4x8, .f32⟩
  | .hbm, ⟨83, _⟩ => ⟨S4x8, .f32⟩
  | .hbm, ⟨84, _⟩ => ⟨S_, .f32⟩
  | .hbm, ⟨85, _⟩ => ⟨S4, .f32⟩
  | .hbm, ⟨86, _⟩ => ⟨S4x64x8, .f32⟩
  | .hbm, ⟨87, _⟩ => ⟨S_, .f32⟩
  | .hbm, ⟨88, _⟩ => ⟨S4x8, .f32⟩
  | .hbm, ⟨89, _⟩ => ⟨S4x8, .f32⟩
  | .hbm, ⟨90, _⟩ => ⟨S_, .f32⟩
  | .hbm, ⟨91, _⟩ => ⟨S4, .f32⟩
  | .hbm, ⟨92, _⟩ => ⟨S_, .f32⟩
  | .hbm, ⟨93, _⟩ => ⟨S4, .f32⟩
  | .hbm, ⟨94, _⟩ => ⟨S4, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S4x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_call2_v0 : Ref sig .tc := ⟨.hbm, 86, rfl⟩
abbrev main_call2_cst : Ref sig .tc := ⟨.hbm, 87, rfl⟩
abbrev main_call2_v1 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_cst_15 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_cst_17 : Ref sig .tc := ⟨.hbm, 97, rfl⟩
abbrev main_v64 : Ref sig .tc := ⟨.hbm, 98, rfl⟩
abbrev main_cst_18 : Ref sig .tc := ⟨.hbm, 99, rfl⟩
abbrev main_v65 : Ref sig .tc := ⟨.hbm, 100, rfl⟩
abbrev main_cst_19 : Ref sig .tc := ⟨.hbm, 101, rfl⟩
abbrev main_v66 : Ref sig .tc := ⟨.hbm, 102, rfl⟩
abbrev main_cst_20 : Ref sig .tc := ⟨.hbm, 103, rfl⟩
abbrev main_v67 : Ref sig .tc := ⟨.hbm, 104, rfl⟩
abbrev main_cst_21 : Ref sig .tc := ⟨.hbm, 105, rfl⟩
abbrev main_v68 : Ref sig .tc := ⟨.hbm, 106, rfl⟩
abbrev main_cst_22 : Ref sig .tc := ⟨.hbm, 107, rfl⟩
abbrev main_v69 : Ref sig .tc := ⟨.hbm, 108, rfl⟩
abbrev main_cst_23 : Ref sig .tc := ⟨.hbm, 109, rfl⟩
abbrev main_v70 : Ref sig .tc := ⟨.hbm, 110, rfl⟩
abbrev main_v71 : Ref sig .tc := ⟨.hbm, 111, rfl⟩
abbrev main_cst_24 : Ref sig .tc := ⟨.hbm, 112, rfl⟩
abbrev main_v72 : Ref sig .tc := ⟨.hbm, 113, rfl⟩
abbrev main_v73 : Ref sig .tc := ⟨.hbm, 114, rfl⟩

abbrev nD : Nat := 1
abbrev τ : Topo := Topo.v7x

variable {F : FTy → Type} [FloatOps F]
-- ==== Proof.Spec.lean ====
/-
  The loss of one image over the real numbers: the clusters' sizes, means and squared norms, the distances of the pixels
  to their clusters' means, the three terms of the loss. Then the two identities by which the kernel's arithmetic differs
  from the plain one: a squared distance expanded into squared norms and an inner product, for a pixel and its cluster's
  mean and for a pair of means. Then the real numbers among the extended ones: sums, quotients, square roots, maxima and
  the constants of the two programs.
-/
module

public import Idealize.ShloMosaic.Lib.Pointwise
public import Idealize.ShloMosaic.PureOps.Ideal.Laws

@[expose] public section

noncomputable section

open scoped BigOperators

namespace Cert.Spec

open Idealize.ShloMosaic

section Real

variable (f : Fin 64 → Fin 16384 → ℝ) (g : Fin 16384 → BitVec 32)

/-- One where pixel `p` belongs to cluster `k`, zero elsewhere. -/
def mask (k : Fin 8) (p : Fin 16384) : ℝ := if g p = BitVec.ofNat 32 k.val then 1 else 0
/-- The number of pixels of cluster `k`. -/
def count (k : Fin 8) : ℝ := ∑ p, mask g k p
/-- The mean of cluster `k`'s features in channel `c`. -/
def mean (k : Fin 8) (c : Fin 64) : ℝ := (∑ p, f c p * mask g k p) / count g k
/-- The squared norm of cluster `k`'s mean. -/
def sqnorm (k : Fin 8) : ℝ := ∑ c, mean f g k c * mean f g k c
/-- The squared distance from pixel `p` to cluster `k`'s mean. -/
def sqdist (k : Fin 8) (p : Fin 16384) : ℝ := ∑ c, (f c p - mean f g k c) * (f c p - mean f g k c)
/-- The mean distance from cluster `k`'s pixels to its mean. -/
def spread (k : Fin 8) : ℝ := (∑ p, mask g k p * Real.sqrt (sqdist f g k p)) / count g k
/-- The variance term of the image. -/
def varTerm : ℝ :=
  (∑ k, max (spread f g k - 13421773 / 67108864) 0 / count g k) / ∑ k, 1 / count g k
/-- The squared distance between two clusters' means. -/
def sqgap (i j : Fin 8) : ℝ := ∑ c, (mean f g i c - mean f g j c) * (mean f g i c - mean f g j c)
/-- One on the diagonal, zero off it. -/
def diag (i j : Fin 8) : ℝ := if i = j then 1 else 0
/-- The distance term of the image. -/
def distTerm : ℝ :=
  ∑ i, max (13421773 / 33554432 - (∑ j, Real.sqrt (sqgap f g i j + diag i j) * (1 - diag i j)) / 7) 0
/-- The norm term of the image. -/
def normTerm : ℝ := (∑ k, Real.sqrt (sqnorm f g k)) / 8

theorem sqnorm_nonneg (k : Fin 8) : 0 ≤ sqnorm f g k := Finset.sum_nonneg fun _ _ => mul_self_nonneg _
theorem sqdist_nonneg (k : Fin 8) (p : Fin 16384) : 0 ≤ sqdist f g k p := Finset.sum_nonneg fun _ _ => mul_self_nonneg _
theorem sqgap_nonneg (i j : Fin 8) : 0 ≤ sqgap f g i j := Finset.sum_nonneg fun _ _ => mul_self_nonneg _
theorem diag_nonneg (i j : Fin 8) : 0 ≤ diag i j := by unfold diag; split <;> norm_num

/-- Two cluster numbers with the same word are the same. -/
theorem word_inj (i j : Fin 8) : BitVec.ofNat 32 i.val = BitVec.ofNat 32 j.val ↔ i = j := by
  revert i j; decide

/-- A pixel of cluster `k` is a pixel of no other. -/
theorem mask_eq_diag {k : Fin 8} {p : Fin 16384} (h : g p = BitVec.ofNat 32 k.val) (j : Fin 8) :
    mask g j p = if j = k then 1 else 0 := by
  unfold mask
  rw [h]
  by_cases e : j = k
  · rw [if_pos e, if_pos (by rw [e])]
  · rw [if_neg e, if_neg fun h' => e ((word_inj k j).mp h').symm]

/-- For a pixel of cluster `k` the mask picks cluster `k`'s value. -/
theorem sum_mask {k : Fin 8} {p : Fin 16384} (h : g p = BitVec.ofNat 32 k.val) (v : Fin 8 → ℝ) :
    ∑ j, mask g j p * v j = v k := by
  simp only [mask_eq_diag g h, ite_mul, one_mul, zero_mul, Finset.sum_ite_eq', Finset.mem_univ, if_true]

/-- The squared distance from a pixel to its cluster's mean, expanded. -/
theorem sqdist_expand {k : Fin 8} {p : Fin 16384} (h : g p = BitVec.ofNat 32 k.val) :
    (∑ c, f c p * f c p) + ∑ j, mask g j p * (sqnorm f g j - 2 * ∑ c, mean f g j c * f c p) = sqdist f g k p := by
  rw [sum_mask g h]
  unfold sqdist sqnorm
  rw [Finset.mul_sum, ← Finset.sum_sub_distrib, ← Finset.sum_add_distrib]
  exact Finset.sum_congr rfl fun c _ => by ring

/-- The squared distance between two means, expanded. -/
theorem sqgap_expand (i j : Fin 8) :
    sqnorm f g i + sqnorm f g j - 2 * ∑ c, mean f g i c * mean f g j c = sqgap f g i j := by
  unfold sqgap sqnorm
  rw [Finset.mul_sum, ← Finset.sum_add_distrib, ← Finset.sum_sub_distrib]
  exact Finset.sum_congr rfl fun c _ => by ring

/-- The mask keeps the pixels of cluster `k`, so what is summed over them may be computed as if all were of it. -/
theorem mask_mul_congr {k : Fin 8} {p : Fin 16384} {a b : ℝ} (h : g p = BitVec.ofNat 32 k.val → a = b) :
    mask g k p * a = mask g k p * b := by
  unfold mask
  split
  · rename_i e; rw [h e]
  · rw [zero_mul, zero_mul]

/-- A cluster met by some pixel has a positive size. -/
theorem count_pos {k : Fin 8} {p : Fin 16384} (h : g p = BitVec.ofNat 32 k.val) : 0 < count g k :=
  Finset.sum_pos' (fun q _ => by unfold mask; split <;> norm_num)
    ⟨p, Finset.mem_univ _, by unfold mask; rw [if_pos h]; norm_num⟩

theorem sum_inv_pos (hc : ∀ k, 0 < count g k) : 0 < ∑ k, 1 / count g k :=
  Finset.sum_pos (fun k _ => one_div_pos.mpr (hc k)) ⟨0, Finset.mem_univ _⟩

end Real

/-! ## The real numbers among the extended ones -/

theorem coe_sum {ι : Type} [DecidableEq ι] (s : Finset ι) (v : ι → ℝ) :
    ∑ i ∈ s, ((v i : ℝ) : EReal) = ((∑ i ∈ s, v i : ℝ) : EReal) := by
  induction s using Finset.induction_on with
  | empty => rw [Finset.sum_empty, Finset.sum_empty, EReal.coe_zero]
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

theorem coe_max_zero (a : ℝ) : max (a : EReal) 0 = ((max a 0 : ℝ) : EReal) := by rw [← EReal.coe_zero, coe_max]

theorem coe_div (a : ℝ) {b : ℝ} (h : b ≠ 0) : Ideal.div (a : EReal) (b : EReal) = ((a / b : ℝ) : EReal) := by
  rw [Ideal.div_coe h, ← EReal.coe_mul, mul_one_div]

theorem coe_one_div {b : ℝ} (h : b ≠ 0) : Ideal.div 1 (b : EReal) = ((1 / b : ℝ) : EReal) := by
  rw [← EReal.coe_one, coe_div 1 h]

theorem coe_sqrt {a : ℝ} (h : 0 ≤ a) : Ideal.sqrt (a : EReal) = ((Real.sqrt a : ℝ) : EReal) := by
  rw [Ideal.sqrt_coe, if_neg (not_lt.mpr h)]

theorem coe_one_sub (a : ℝ) : (1 : EReal) - (a : EReal) = ((1 - a : ℝ) : EReal) := by rw [EReal.coe_sub, EReal.coe_one]

/-- A comparison of two words for equality, widened and converted to a float. -/
theorem sitofp_eq (a b : BitVec 32) :
    (FloatOps.sitofp .f32 (BitVec.setWidth 32 (IntOp.cmpi .eq a b)) : Ideal .f32) = ((if a = b then 1 else 0 : ℝ) : EReal) := by
  by_cases h : a = b
  · rw [if_pos h]; simp [IntOp.cmpi, h, FloatOps.sitofp]
  · have e : (a == b) = false := beq_eq_false_iff_ne.mpr h
    rw [if_neg h]; simp [IntOp.cmpi, e, FloatOps.sitofp]

/-- A comparison of two words for equality, converted to a float. -/
theorem uitofp_eq (a b : BitVec 32) :
    (FloatOps.uitofp .f32 (IntOp.cmpi .eq a b) : Ideal .f32) = ((if a = b then 1 else 0 : ℝ) : EReal) := by
  by_cases h : a = b
  · rw [if_pos h]; simp [IntOp.cmpi, h, FloatOps.uitofp]
  · have e : (a == b) = false := beq_eq_false_iff_ne.mpr h
    rw [if_neg h]; simp [IntOp.cmpi, e, FloatOps.uitofp]

theorem lit_fifth : Ideal.ofBits .f32 0x3E4CCCCD#32 = ((13421773 / 67108864 : ℝ) : EReal) := by
  simp [Ideal.ofBits, Ideal.ieee, -EReal.coe_mul]; norm_num
theorem lit_two_fifths : Ideal.ofBits .f32 0x3ECCCCCD#32 = ((13421773 / 33554432 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_seven : Ideal.ofBits .f32 0x40E00000#32 = ((7 : ℝ) : EReal) := by
  simp [Ideal.ofBits, Ideal.ieee, -EReal.coe_mul]; norm_num
theorem lit_eight : Ideal.ofBits .f32 0x41000000#32 = ((8 : ℝ) : EReal) := by
  simp [Ideal.ofBits, Ideal.ieee, -EReal.coe_mul]; norm_num
theorem lit_thirty_two : Ideal.ofBits .f32 0x42000000#32 = ((32 : ℝ) : EReal) := by
  simp [Ideal.ofBits, Ideal.ieee, -EReal.coe_mul]; norm_num

end Cert.Spec

end
-- ==== Proof.Body.lean ====
/-
  What one grid point of the kernel leaves behind, for any float values: the block of cluster means, the running lane
  vector, and at the last point the four scalars — each as the kernel's own arithmetic on the two input blocks and on
  the lane vector that the point before left. Then the lane vector after the last point as one chain of additions, and
  the five result arrays after the run.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable {F : FTy → Type} [FloatOps F]

/-! ## The body's values, named -/

/-- The lanes' numbers. -/
abbrev lanes : IVec S1x128 32 := iota .tc S1x128 32 [1] iota_S1x128_d1_w32

/-- One image's contribution to the running lane vector. -/
abbrev contrib (x : Vec F S1x64x128x128 .f32) (g : Vec F S1x128x128 .i32) : FVec F S1x128 .f32 :=
  k0_pay18 (k0_pay13 x g) (k0_pay15 (k0_pay11 g) (k0_pay14 x g) (Scalar.ofBits .f32 0x3E4CCCCD#32))
    (k0_pay16 (k0_pay12 x g) (k0_pay13 x g))

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

section Cases

variable (c : Dev nD) (i : grid0.Coords) (a1 : Memref sig .tc .vmem S1x64x128x128 .f32) (h1 : a1.IsWhole)
  (a2 : Memref sig .tc .vmem S1x128x128 .i32) (h2 : a2.IsWhole) (a3 : Memref sig .tc .vmem S1x64x8 .f32) (h3 : a3.IsWhole)
  (a4 : Memref sig .tc .vmem S1x1x1 .f32) (h4 : a4.IsWhole) (a5 : Memref sig .tc .vmem S1x1x1 .f32) (h5 : a5.IsWhole)
  (a6 : Memref sig .tc .vmem S1x1x1 .f32) (h6 : a6.IsWhole) (a7 : Memref sig .tc .vmem S1x1x1 .f32) (h7 : a7.IsWhole)
  (a8 : Memref sig .tc .vmem S1x128 .f32) (h8 : a8.IsWhole)
  (x : Vec F S1x64x128x128 .f32) (g : Vec F S1x128x128 .i32) (xs : Vec F S1x128 .f32)

theorem mu_A (hc0 : cond0_0 i) (hc1 : ¬cond0_1 i) (hc2 : ¬cond0_2 i) :
    out0_A_2 c i a1 h1 a2 h2 a3 h3 a4 h4 a5 h5 a6 h6 a7 h7 a8 h8 hc0 hc1 hc2 x g = k0_pay17 (k0_pay12 x g) := by
  unfold out0_A_2
  rw [View.read_writes_eq_canon _ _ _ (cover0_A_2 c i a1 h1 a2 h2 a3 h3 a4 h4 a5 h5 a6 h6 a7 h7 a8 h8 hc0 hc1 hc2 x g)]
  unfold kernelRun0_A
  dsimp only
  sl_unfold_words
  rw [View.canon_unit_zero z3]
  simp only [View.readAt_eq_ld, h1.read_unread, h2.read_unread, View.ld_unit_zero (S := S1x64x128x128) z4,
    View.ld_unit_zero (S := S1x128x128) z3]

theorem acc_A (hc0 : cond0_0 i) (hc1 : ¬cond0_1 i) (hc2 : ¬cond0_2 i) :
    sout0_A_0 c i a1 h1 a2 h2 a3 h3 a4 h4 a5 h5 a6 h6 a7 h7 a8 h8 hc0 hc1 hc2 x g = contrib x g := by
  unfold sout0_A_0
  rw [View.read_writes_eq_canon _ _ _ (scover0_A_0 c i a1 h1 a2 h2 a3 h3 a4 h4 a5 h5 a6 h6 a7 h7 a8 h8 hc0 hc1 hc2 x g)]
  unfold kernelRun0_A
  dsimp only
  sl_unfold_words
  rw [View.canon_unit_zero z2]
  simp only [View.readAt_eq_ld, h1.read_unread, h2.read_unread, View.ld_unit_zero (S := S1x64x128x128) z4,
    View.ld_unit_zero (S := S1x128x128) z3, k0_pay19, shapeCast_self]

theorem mu_B (hc0 : ¬cond0_0 i) (hc1 : cond0_1 i) (hc2 : ¬cond0_2 i) :
    out0_B_2 c i a1 h1 a2 h2 a3 h3 a4 h4 a5 h5 a6 h6 a7 h7 a8 h8 hc0 hc1 hc2 x g xs = k0_pay17 (k0_pay12 x g) := by
  unfold out0_B_2
  rw [View.read_writes_eq_canon _ _ _ (cover0_B_2 c i a1 h1 a2 h2 a3 h3 a4 h4 a5 h5 a6 h6 a7 h7 a8 h8 hc0 hc1 hc2 x g xs)]
  unfold kernelRun0_B
  dsimp only
  sl_unfold_words
  rw [View.canon_unit_zero z3]
  simp only [View.readAt_eq_ld, h1.read_unread, h2.read_unread, View.ld_unit_zero (S := S1x64x128x128) z4,
    View.ld_unit_zero (S := S1x128x128) z3]

theorem acc_B (hc0 : ¬cond0_0 i) (hc1 : cond0_1 i) (hc2 : ¬cond0_2 i) :
    sout0_B_0 c i a1 h1 a2 h2 a3 h3 a4 h4 a5 h5 a6 h6 a7 h7 a8 h8 hc0 hc1 hc2 x g xs = addf xs (contrib x g) := by
  unfold sout0_B_0
  rw [View.read_writes_eq_canon _ _ _ (scover0_B_0 c i a1 h1 a2 h2 a3 h3 a4 h4 a5 h5 a6 h6 a7 h7 a8 h8 hc0 hc1 hc2 x g xs)]
  unfold kernelRun0_B
  dsimp only
  sl_unfold_words
  rw [View.canon_unit_zero z2]
  simp only [View.readAt_eq_ld, h1.read_unread, h2.read_unread, h8.read_unread, View.ld_unit_zero (S := S1x64x128x128) z4,
    View.ld_unit_zero (S := S1x128x128) z3, View.ld_unit_zero (S := S1x128) z2, k0_pay20, shapeCast_self]

theorem mu_C (hc0 : ¬cond0_0 i) (hc1 : cond0_1 i) (hc2 : cond0_2 i) :
    out0_C_2 c i a1 h1 a2 h2 a3 h3 a4 h4 a5 h5 a6 h6 a7 h7 a8 h8 hc0 hc1 hc2 x g xs = k0_pay17 (k0_pay12 x g) := by
  unfold out0_C_2
  rw [View.read_writes_eq_canon _ _ _ (cover0_C_2 c i a1 h1 a2 h2 a3 h3 a4 h4 a5 h5 a6 h6 a7 h7 a8 h8 hc0 hc1 hc2 x g xs)]
  unfold kernelRun0_C
  dsimp only
  sl_unfold_words
  rw [View.canon_unit_zero z3]
  simp only [View.readAt_eq_ld, h1.read_unread, h2.read_unread, View.ld_unit_zero (S := S1x64x128x128) z4,
    View.ld_unit_zero (S := S1x128x128) z3]

theorem tot_C (hc0 : ¬cond0_0 i) (hc1 : cond0_1 i) (hc2 : cond0_2 i) :
    out0_C_3 c i a1 h1 a2 h2 a3 h3 a4 h4 a5 h5 a6 h6 a7 h7 a8 h8 hc0 hc1 hc2 x g xs
      = k0_pay7 lanes (addf xs (contrib x g)) := by
  unfold out0_C_3
  rw [View.read_writes_eq_canon _ _ _ (cover0_C_3 c i a1 h1 a2 h2 a3 h3 a4 h4 a5 h5 a6 h6 a7 h7 a8 h8 hc0 hc1 hc2 x g xs)]
  unfold kernelRun0_C
  dsimp only
  sl_unfold_words
  rw [View.canon_unit_zero z3]
  simp only [View.readAt_eq_ld, h1.read_unread, h2.read_unread, h8.read_unread, View.ld_unit_zero (S := S1x64x128x128) z4,
    View.ld_unit_zero (S := S1x128x128) z3, View.ld_unit_zero (S := S1x128) z2, View.readCov_unit_zero (S := S1x128) _ z2,
    k0_pay20, shapeCast_self]

theorem var_C (hc0 : ¬cond0_0 i) (hc1 : cond0_1 i) (hc2 : cond0_2 i) :
    out0_C_4 c i a1 h1 a2 h2 a3 h3 a4 h4 a5 h5 a6 h6 a7 h7 a8 h8 hc0 hc1 hc2 x g xs
      = k0_pay1 (k0_pay4 lanes (addf xs (contrib x g))) := by
  unfold out0_C_4
  rw [View.read_writes_eq_canon _ _ _ (cover0_C_4 c i a1 h1 a2 h2 a3 h3 a4 h4 a5 h5 a6 h6 a7 h7 a8 h8 hc0 hc1 hc2 x g xs)]
  unfold kernelRun0_C
  dsimp only
  sl_unfold_words
  rw [View.canon_unit_zero z3]
  simp only [View.readAt_eq_ld, h1.read_unread, h2.read_unread, h8.read_unread, View.ld_unit_zero (S := S1x64x128x128) z4,
    View.ld_unit_zero (S := S1x128x128) z3, View.ld_unit_zero (S := S1x128) z2, View.readCov_unit_zero (S := S1x128) _ z2,
    k0_pay20, shapeCast_self]

theorem dst_C (hc0 : ¬cond0_0 i) (hc1 : cond0_1 i) (hc2 : cond0_2 i) :
    out0_C_5 c i a1 h1 a2 h2 a3 h3 a4 h4 a5 h5 a6 h6 a7 h7 a8 h8 hc0 hc1 hc2 x g xs
      = k0_pay2 (k0_pay5 lanes (addf xs (contrib x g))) := by
  unfold out0_C_5
  rw [View.read_writes_eq_canon _ _ _ (cover0_C_5 c i a1 h1 a2 h2 a3 h3 a4 h4 a5 h5 a6 h6 a7 h7 a8 h8 hc0 hc1 hc2 x g xs)]
  unfold kernelRun0_C
  dsimp only
  sl_unfold_words
  rw [View.canon_unit_zero z3]
  simp only [View.readAt_eq_ld, h1.read_unread, h2.read_unread, h8.read_unread, View.ld_unit_zero (S := S1x64x128x128) z4,
    View.ld_unit_zero (S := S1x128x128) z3, View.ld_unit_zero (S := S1x128) z2, View.readCov_unit_zero (S := S1x128) _ z2,
    k0_pay20, shapeCast_self]

theorem nrm_C (hc0 : ¬cond0_0 i) (hc1 : cond0_1 i) (hc2 : cond0_2 i) :
    out0_C_6 c i a1 h1 a2 h2 a3 h3 a4 h4 a5 h5 a6 h6 a7 h7 a8 h8 hc0 hc1 hc2 x g xs
      = k0_pay3 (k0_pay6 lanes (addf xs (contrib x g))) := by
  unfold out0_C_6
  rw [View.read_writes_eq_canon _ _ _ (cover0_C_6 c i a1 h1 a2 h2 a3 h3 a4 h4 a5 h5 a6 h6 a7 h7 a8 h8 hc0 hc1 hc2 x g xs)]
  unfold kernelRun0_C
  dsimp only
  sl_unfold_words
  rw [View.canon_unit_zero z3]
  simp only [View.readAt_eq_ld, h1.read_unread, h2.read_unread, h8.read_unread, View.ld_unit_zero (S := S1x64x128x128) z4,
    View.ld_unit_zero (S := S1x128x128) z3, View.ld_unit_zero (S := S1x128) z2, View.readCov_unit_zero (S := S1x128) _ z2,
    k0_pay20, shapeCast_self]

theorem acc_C (hc0 : ¬cond0_0 i) (hc1 : cond0_1 i) (hc2 : cond0_2 i) :
    sout0_C_0 c i a1 h1 a2 h2 a3 h3 a4 h4 a5 h5 a6 h6 a7 h7 a8 h8 hc0 hc1 hc2 x g xs = addf xs (contrib x g) := by
  unfold sout0_C_0
  rw [View.read_writes_eq_canon _ _ _ (scover0_C_0 c i a1 h1 a2 h2 a3 h3 a4 h4 a5 h5 a6 h6 a7 h7 a8 h8 hc0 hc1 hc2 x g xs)]
  unfold kernelRun0_C
  dsimp only
  sl_unfold_words
  rw [View.canon_unit_zero z2]
  simp only [View.readAt_eq_ld, h1.read_unread, h2.read_unread, h8.read_unread, View.ld_unit_zero (S := S1x64x128x128) z4,
    View.ld_unit_zero (S := S1x128x128) z3, View.ld_unit_zero (S := S1x128) z2, k0_pay20, shapeCast_self]

end Cases

/-! ## What the buffers hold after each point -/

variable (m : (ℓ : Loc nD τ sig) → Buf (Elt F) ℓ) (ρ : Dev nD → PrngReg)

/-- Image `t`'s features, the block that point `t` reads. -/
abbrev feat (c : Dev nD) (t : Fin cfg0.N) : Vec F S1x64x128x128 .f32 := iblk m c 0 t
/-- Image `t`'s cluster ids, the block that point `t` reads. -/
abbrev ids (c : Dev nD) (t : Fin cfg0.N) : Vec F S1x128x128 .i32 := iblk m c 1 t

/-- The lane vector after point `n`: the images' contributions added first to last. -/
def acc (c : Dev nD) : (n : ℕ) → n < cfg0.N → FVec F S1x128 .f32
  | 0, h => contrib (feat m c ⟨0, h⟩) (ids m c ⟨0, h⟩)
  | n + 1, h => addf (acc c n (Nat.lt_of_succ_lt h)) (contrib (feat m c ⟨n + 1, h⟩) (ids m c ⟨n + 1, h⟩))

/-- The carried scratch after each point is that lane vector. -/
theorem outsAt_acc (c : Dev nD) : ∀ (n : ℕ) (h : n < cfg0.N), (outsAt0 m c n h).2.2.2.2.2 = acc m c n h
  | 0, h => by
    rw [outsAt0_A m c ⟨0, h⟩ rfl (by simp) (by simp)]
    dsimp only
    rw [acc_A]
    rfl
  | n + 1, h => by
    have hN : n + 1 < 4 := lt_of_lt_of_eq h (show cfg0.N = 4 from N_0)
    by_cases h2 : (n + 1) % 4 = 3
    · rw [outsAt0_C m c ⟨n + 1, h⟩ (by dsimp only; omega) (by dsimp only; omega) h2]
      dsimp only
      rw [acc_C]
      show addf (outsAt0 m c n _).2.2.2.2.2 _ = addf (acc m c n _) _
      rw [outsAt_acc c n]
    · rw [outsAt0_B m c ⟨n + 1, h⟩ (by dsimp only; omega) (by dsimp only; omega) h2]
      dsimp only
      rw [acc_B]
      show addf (outsAt0 m c n _).2.2.2.2.2 _ = addf (acc m c n _) _
      rw [outsAt_acc c n]

/-- The means' block after each point. -/
theorem outsAt_mu (c : Dev nD) (t : Fin cfg0.N) :
    (outsAt0 m c t.val t.isLt).1 = k0_pay17 (k0_pay12 (feat m c t) (ids m c t)) := by
  have hN : t.val < 4 := lt_of_lt_of_eq t.isLt (show cfg0.N = 4 from N_0)
  by_cases h0 : t.val % 4 = 0
  · rw [outsAt0_A m c t h0 (by omega) (by omega), mu_A]
  · by_cases h2 : t.val % 4 = 3
    · rw [outsAt0_C m c t h0 (by omega) h2, mu_C]
    · rw [outsAt0_B m c t h0 (by omega) h2, mu_B]

/-- The lane vector after the last point. -/
abbrev accLast (c : Dev nD) : FVec F S1x128 .f32 := acc m c 3 (by rw [show cfg0.N = 4 from N_0]; decide)

theorem outsAt_last (c : Dev nD) :
    (outsAt0 m c t0_3.val t0_3.isLt).2.1 = k0_pay7 lanes (accLast m c)
    ∧ (outsAt0 m c t0_3.val t0_3.isLt).2.2.1 = k0_pay1 (k0_pay4 lanes (accLast m c))
    ∧ (outsAt0 m c t0_3.val t0_3.isLt).2.2.2.1 = k0_pay2 (k0_pay5 lanes (accLast m c))
    ∧ (outsAt0 m c t0_3.val t0_3.isLt).2.2.2.2.1 = k0_pay3 (k0_pay6 lanes (accLast m c)) := by
  have e : addf (outsAt0 m c (t0_3.val - 1) (Nat.lt_of_le_of_lt (Nat.sub_le _ _) t0_3.isLt)).2.2.2.2.2
      (contrib (feat m c t0_3) (ids m c t0_3)) = accLast m c := by
    rw [outsAt_acc]; rfl
  rw [outsAt0_C m c t0_3 (by decide) (by decide) (by decide)]
  dsimp only
  rw [tot_C, var_C, dst_C, nrm_C, e]
  exact ⟨rfl, rfl, rfl, rfl⟩

end Cert.KernelIdeal.Body

end
-- ==== Proof.Arrays.lean ====
/-
  The kernel's five results after the run, for any float values: the four scalars, each the one element that the last
  point wrote, reshaped by the host's last lines, and the array of means, whose block `n` is what point `n` wrote.
-/
module

public import proofs.«01_k».proof.Proof.Body
public import Idealize.ShloMosaic.Lib.StableHlo.Run
public import Idealize.ShloMosaic.Lib.ValueIdxCore

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)
open Idealize.ShloMosaic.ValueIdx (ix3)

variable {F : FTy → Type} [FloatOps F]
variable (m : (ℓ : Loc nD τ sig) → Buf (Elt F) ℓ) (ρ : Dev nD → PrngReg)

/-- Point `n`'s number as a grid point. -/
abbrev pt (n : Fin 4) : Fin cfg0.N := ⟨n.val, lt_of_lt_of_eq n.isLt N_0.symm⟩

/-- The array of means: block `n` is what point `n` wrote. -/
def means (c : Dev nD) : Buf (Elt F) ((c : Thread nD τ).loc main_v0_0) := fun i : S4x64x8.Idx =>
  k0_pay17 (k0_pay12 (feat m c (pt (i 0))) (ids m c (pt (i 0)))) (ix3 0 (i 1) (i 2))

theorem index2 : ∀ t : Fin cfg0.N, win0_2.index t (0 : Fin 3) = t.val ∧ win0_2.index t (1 : Fin 3) = 0
    ∧ win0_2.index t (2 : Fin 3) = 0 :=
  (by decide +kernel : ∀ t : Fin grid0.N, _)

theorem flushed_means (c : Dev nD) (t : Fin cfg0.N) :
    (dats m 0 c).flushed 2 t = ((cfg0.win 2).blk t).view.read (Elt F) (means m c) := by
  show (cfg0.win 2).cut (grid0.coords t) ((dats m 0 c).after 2 t) = _
  rw [after0_2, outsAt_mu]
  obtain ⟨e0, e1, e2⟩ := index2 t
  funext y
  have hy0 : (y 0).val < 1 := (y 0).isLt
  have hb0 : (((cfg0.win 2).blk t).view.emb y 0).val = win0_2.index t (0 : Fin 3) * 1 + 1 * (y 0).val := rfl
  have hb1 : (((cfg0.win 2).blk t).view.emb y 1).val = win0_2.index t (1 : Fin 3) * 64 + 1 * (y 1).val := rfl
  have hb2 : (((cfg0.win 2).blk t).view.emb y 2).val = win0_2.index t (2 : Fin 3) * 8 + 1 * (y 2).val := rfl
  show k0_pay17 (k0_pay12 (feat m c t) (ids m c t)) ((cfg0.win 2).xinj (grid0.coords t) y)
    = means m c (((cfg0.win 2).blk t).view.emb y)
  unfold means
  have hp : pt (((cfg0.win 2).blk t).view.emb y 0) = t := Fin.ext (by rw [hb0]; omega)
  rw [hp]
  congr 1
  funext a
  apply Fin.ext
  match a with
  | ⟨0, _⟩ => show (y 0).val = 0; omega
  | ⟨1, _⟩ => show (y 1).val = (((cfg0.win 2).blk t).view.emb y 1).val; rw [hb1]; omega
  | ⟨2, _⟩ => show (y 2).val = (((cfg0.win 2).blk t).view.emb y 2).val; rw [hb2]; omega

/-- The means' array after the run. -/
theorem arr_means (c : Dev nD) : (dats m 0 c).arrAt 2 cfg0.N = means m c :=
  (dats m 0 c).arrAt_eq_of_cover 2 (means m c) (fun t _ => flushed_means m c t) fun i : S4x64x8.Idx =>
    ⟨pt (i 0), flush0_2 _, by
      show i ∈ ((View.whole main_v0_0).slice (win0_2.rect (pt (i 0)))).set
      rw [View.set_slice_whole, Rect.mem_set_unit]
      obtain ⟨e0, e1, e2⟩ := index2 (pt (i 0))
      have h1 : (i 1).val < 64 := (i 1).isLt
      have h2 : (i 2).val < 8 := (i 2).isLt
      intro a
      match a with
      | ⟨0, _⟩ => show win0_2.index (pt (i 0)) (0 : Fin 3) * 1 ≤ (i 0).val ∧ (i 0).val < win0_2.index (pt (i 0)) (0 : Fin 3) * 1 + 1; rw [e0]; show (i 0).val * 1 ≤ (i 0).val ∧ _ < (i 0).val * 1 + 1; omega
      | ⟨1, _⟩ => show win0_2.index (pt (i 0)) (1 : Fin 3) * 64 ≤ (i 1).val ∧ (i 1).val < win0_2.index (pt (i 0)) (1 : Fin 3) * 64 + 64; omega
      | ⟨2, _⟩ => show win0_2.index (pt (i 0)) (2 : Fin 3) * 8 ≤ (i 2).val ∧ (i 2).val < win0_2.index (pt (i 0)) (2 : Fin 3) * 8 + 8; omega⟩

/-- A one-element array has one index. -/
theorem one_idx (i j : S1x1x1.Idx) : i = j := by
  funext a
  apply Fin.ext
  match a with
  | ⟨0, _⟩ => have h : (i 0).val < 1 := (i 0).isLt; have h' : (j 0).val < 1 := (j 0).isLt; show (i 0).val = (j 0).val; omega
  | ⟨1, _⟩ => have h : (i 1).val < 1 := (i 1).isLt; have h' : (j 1).val < 1 := (j 1).isLt; show (i 1).val = (j 1).val; omega
  | ⟨2, _⟩ => have h : (i 2).val < 1 := (i 2).isLt; have h' : (j 2).val < 1 := (j 2).isLt; show (i 2).val = (j 2).val; omega

/-- That index. -/
abbrev o1 : S1x1x1.Idx := ix3 0 0 0

/-- A one-element array cast to a scalar is its one element. -/
theorem cast_one (x : Vec F S1x1x1 .f32) (j : S_.Idx) : shapeCast S_ x shapeCasts_S1x1x1_S_ j = x o1 :=
  congrArg x (one_idx _ _)

/-- The one element of the total after the run. -/
def total (c : Dev nD) : Buf (Elt F) ((c : Thread nD τ).loc main_v0_1) := k0_pay7 lanes (accLast m c)

theorem flushed_total (c : Dev nD) (t : Fin cfg0.N) (hf : (cfg0.win 3).flush t = true) :
    (dats m 0 c).flushed 3 t = ((cfg0.win 3).blk t).view.read (Elt F) (total m c) := by
  have hN : t.val < 4 := lt_of_lt_of_eq t.isLt (show cfg0.N = 4 from N_0)
  have h3 : t.val = 3 := by have := (flush0_3 t).mp hf; omega
  obtain rfl : t = t0_3 := Fin.ext h3
  show (cfg0.win 3).cut (grid0.coords t0_3) ((dats m 0 c).after 3 t0_3) = _
  rw [after0_3, (outsAt_last m c).1]
  funext y
  show k0_pay7 lanes (accLast m c) ((cfg0.win 3).xinj (grid0.coords t0_3) y)
    = total m c (((cfg0.win 3).blk t0_3).view.emb y)
  unfold total
  exact congrArg _ (one_idx _ _)

theorem arr_total (c : Dev nD) : (dats m 0 c).arrAt 3 cfg0.N = total m c :=
  (dats m 0 c).arrAt_eq_of_cover 3 (total m c) (flushed_total m c) fun i : S1x1x1.Idx =>
    ⟨t0_3, (flush0_3 t0_3).mpr rfl, by
      show i ∈ ((View.whole main_v0_1).slice (win0_3.rect t0_3)).set
      rw [View.set_slice_whole, Rect.mem_set_unit]
      have h0 : (i 0).val < 1 := (i 0).isLt
      have h1 : (i 1).val < 1 := (i 1).isLt
      have h2 : (i 2).val < 1 := (i 2).isLt
      intro a
      match a with
      | ⟨0, _⟩ => show win0_3.index t0_3 (0 : Fin 3) * 1 ≤ (i 0).val ∧ (i 0).val < win0_3.index t0_3 (0 : Fin 3) * 1 + 1; rw [show win0_3.index t0_3 (0 : Fin 3) = 0 from by decide +kernel]; omega
      | ⟨1, _⟩ => show win0_3.index t0_3 (1 : Fin 3) * 1 ≤ (i 1).val ∧ (i 1).val < win0_3.index t0_3 (1 : Fin 3) * 1 + 1; rw [show win0_3.index t0_3 (1 : Fin 3) = 0 from by decide +kernel]; omega
      | ⟨2, _⟩ => show win0_3.index t0_3 (2 : Fin 3) * 1 ≤ (i 2).val ∧ (i 2).val < win0_3.index t0_3 (2 : Fin 3) * 1 + 1; rw [show win0_3.index t0_3 (2 : Fin 3) = 0 from by decide +kernel]; omega⟩

/-- The host's reshape of the total to a scalar. -/
theorem tail_total (c : Dev nD) : Pipeline.afterTail₀ cfgs (dats m) 0 (V0 m) [hostOps1] c main_v1
    = fun _ => total m c o1 := by
  unfold Pipeline.afterTail₀
  show StableHlo.after hostOps1 _ _ = _
  after_results
  have e := Pipeline.withArrays_arr spec0 launch0.win.arr_inj c (V0 m c) (fun w => (dats m 0 c).arrAt w (cfgs 0).N) 3
  funext j
  refine (cast_one (Pipeline.withArrays (cfgs 0).spec c (V0 m c) (fun w => (dats m 0 c).arrAt w (cfgs 0).N) (Proc.tc.devRef main_v0_1)) j).trans ?_
  exact congrFun (e.trans (arr_total m c)) o1

/-- The one element of the variance after the run. -/
def variance (c : Dev nD) : Buf (Elt F) ((c : Thread nD τ).loc main_v0_2) := k0_pay1 (k0_pay4 lanes (accLast m c))

theorem flushed_variance (c : Dev nD) (t : Fin cfg0.N) (hf : (cfg0.win 4).flush t = true) :
    (dats m 0 c).flushed 4 t = ((cfg0.win 4).blk t).view.read (Elt F) (variance m c) := by
  have hN : t.val < 4 := lt_of_lt_of_eq t.isLt (show cfg0.N = 4 from N_0)
  have h3 : t.val = 3 := by have := (flush0_4 t).mp hf; omega
  obtain rfl : t = t0_3 := Fin.ext h3
  show (cfg0.win 4).cut (grid0.coords t0_3) ((dats m 0 c).after 4 t0_3) = _
  rw [after0_4, (outsAt_last m c).2.1]
  funext y
  show k0_pay1 (k0_pay4 lanes (accLast m c)) ((cfg0.win 4).xinj (grid0.coords t0_3) y)
    = variance m c (((cfg0.win 4).blk t0_3).view.emb y)
  unfold variance
  exact congrArg _ (one_idx _ _)

theorem arr_variance (c : Dev nD) : (dats m 0 c).arrAt 4 cfg0.N = variance m c :=
  (dats m 0 c).arrAt_eq_of_cover 4 (variance m c) (flushed_variance m c) fun i : S1x1x1.Idx =>
    ⟨t0_3, (flush0_4 t0_3).mpr rfl, by
      show i ∈ ((View.whole main_v0_2).slice (win0_4.rect t0_3)).set
      rw [View.set_slice_whole, Rect.mem_set_unit]
      have h0 : (i 0).val < 1 := (i 0).isLt
      have h1 : (i 1).val < 1 := (i 1).isLt
      have h2 : (i 2).val < 1 := (i 2).isLt
      intro a
      match a with
      | ⟨0, _⟩ => show win0_4.index t0_3 (0 : Fin 3) * 1 ≤ (i 0).val ∧ (i 0).val < win0_4.index t0_3 (0 : Fin 3) * 1 + 1; rw [show win0_4.index t0_3 (0 : Fin 3) = 0 from by decide +kernel]; omega
      | ⟨1, _⟩ => show win0_4.index t0_3 (1 : Fin 3) * 1 ≤ (i 1).val ∧ (i 1).val < win0_4.index t0_3 (1 : Fin 3) * 1 + 1; rw [show win0_4.index t0_3 (1 : Fin 3) = 0 from by decide +kernel]; omega
      | ⟨2, _⟩ => show win0_4.index t0_3 (2 : Fin 3) * 1 ≤ (i 2).val ∧ (i 2).val < win0_4.index t0_3 (2 : Fin 3) * 1 + 1; rw [show win0_4.index t0_3 (2 : Fin 3) = 0 from by decide +kernel]; omega⟩

/-- The host's reshape of the variance to a scalar. -/
theorem tail_variance (c : Dev nD) : Pipeline.afterTail₀ cfgs (dats m) 0 (V0 m) [hostOps1] c main_v2
    = fun _ => variance m c o1 := by
  unfold Pipeline.afterTail₀
  show StableHlo.after hostOps1 _ _ = _
  after_results
  have e := Pipeline.withArrays_arr spec0 launch0.win.arr_inj c (V0 m c) (fun w => (dats m 0 c).arrAt w (cfgs 0).N) 4
  funext j
  refine (cast_one (Pipeline.withArrays (cfgs 0).spec c (V0 m c) (fun w => (dats m 0 c).arrAt w (cfgs 0).N) (Proc.tc.devRef main_v0_2)) j).trans ?_
  exact congrFun (e.trans (arr_variance m c)) o1

/-- The one element of the distance after the run. -/
def distance (c : Dev nD) : Buf (Elt F) ((c : Thread nD τ).loc main_v0_3) := k0_pay2 (k0_pay5 lanes (accLast m c))

theorem flushed_distance (c : Dev nD) (t : Fin cfg0.N) (hf : (cfg0.win 5).flush t = true) :
    (dats m 0 c).flushed 5 t = ((cfg0.win 5).blk t).view.read (Elt F) (distance m c) := by
  have hN : t.val < 4 := lt_of_lt_of_eq t.isLt (show cfg0.N = 4 from N_0)
  have h3 : t.val = 3 := by have := (flush0_5 t).mp hf; omega
  obtain rfl : t = t0_3 := Fin.ext h3
  show (cfg0.win 5).cut (grid0.coords t0_3) ((dats m 0 c).after 5 t0_3) = _
  rw [after0_5, (outsAt_last m c).2.2.1]
  funext y
  show k0_pay2 (k0_pay5 lanes (accLast m c)) ((cfg0.win 5).xinj (grid0.coords t0_3) y)
    = distance m c (((cfg0.win 5).blk t0_3).view.emb y)
  unfold distance
  exact congrArg _ (one_idx _ _)

theorem arr_distance (c : Dev nD) : (dats m 0 c).arrAt 5 cfg0.N = distance m c :=
  (dats m 0 c).arrAt_eq_of_cover 5 (distance m c) (flushed_distance m c) fun i : S1x1x1.Idx =>
    ⟨t0_3, (flush0_5 t0_3).mpr rfl, by
      show i ∈ ((View.whole main_v0_3).slice (win0_5.rect t0_3)).set
      rw [View.set_slice_whole, Rect.mem_set_unit]
      have h0 : (i 0).val < 1 := (i 0).isLt
      have h1 : (i 1).val < 1 := (i 1).isLt
      have h2 : (i 2).val < 1 := (i 2).isLt
      intro a
      match a with
      | ⟨0, _⟩ => show win0_5.index t0_3 (0 : Fin 3) * 1 ≤ (i 0).val ∧ (i 0).val < win0_5.index t0_3 (0 : Fin 3) * 1 + 1; rw [show win0_5.index t0_3 (0 : Fin 3) = 0 from by decide +kernel]; omega
      | ⟨1, _⟩ => show win0_5.index t0_3 (1 : Fin 3) * 1 ≤ (i 1).val ∧ (i 1).val < win0_5.index t0_3 (1 : Fin 3) * 1 + 1; rw [show win0_5.index t0_3 (1 : Fin 3) = 0 from by decide +kernel]; omega
      | ⟨2, _⟩ => show win0_5.index t0_3 (2 : Fin 3) * 1 ≤ (i 2).val ∧ (i 2).val < win0_5.index t0_3 (2 : Fin 3) * 1 + 1; rw [show win0_5.index t0_3 (2 : Fin 3) = 0 from by decide +kernel]; omega⟩

/-- The host's reshape of the distance to a scalar. -/
theorem tail_distance (c : Dev nD) : Pipeline.afterTail₀ cfgs (dats m) 0 (V0 m) [hostOps1] c main_v3
    = fun _ => distance m c o1 := by
  unfold Pipeline.afterTail₀
  show StableHlo.after hostOps1 _ _ = _
  after_results
  have e := Pipeline.withArrays_arr spec0 launch0.win.arr_inj c (V0 m c) (fun w => (dats m 0 c).arrAt w (cfgs 0).N) 5
  funext j
  refine (cast_one (Pipeline.withArrays (cfgs 0).spec c (V0 m c) (fun w => (dats m 0 c).arrAt w (cfgs 0).N) (Proc.tc.devRef main_v0_3)) j).trans ?_
  exact congrFun (e.trans (arr_distance m c)) o1

/-- The one element of the norm after the run. -/
def norm (c : Dev nD) : Buf (Elt F) ((c : Thread nD τ).loc main_v0_4) := k0_pay3 (k0_pay6 lanes (accLast m c))

theorem flushed_norm (c : Dev nD) (t : Fin cfg0.N) (hf : (cfg0.win 6).flush t = true) :
    (dats m 0 c).flushed 6 t = ((cfg0.win 6).blk t).view.read (Elt F) (norm m c) := by
  have hN : t.val < 4 := lt_of_lt_of_eq t.isLt (show cfg0.N = 4 from N_0)
  have h3 : t.val = 3 := by have := (flush0_6 t).mp hf; omega
  obtain rfl : t = t0_3 := Fin.ext h3
  show (cfg0.win 6).cut (grid0.coords t0_3) ((dats m 0 c).after 6 t0_3) = _
  rw [after0_6, (outsAt_last m c).2.2.2]
  funext y
  show k0_pay3 (k0_pay6 lanes (accLast m c)) ((cfg0.win 6).xinj (grid0.coords t0_3) y)
    = norm m c (((cfg0.win 6).blk t0_3).view.emb y)
  unfold norm
  exact congrArg _ (one_idx _ _)

theorem arr_norm (c : Dev nD) : (dats m 0 c).arrAt 6 cfg0.N = norm m c :=
  (dats m 0 c).arrAt_eq_of_cover 6 (norm m c) (flushed_norm m c) fun i : S1x1x1.Idx =>
    ⟨t0_3, (flush0_6 t0_3).mpr rfl, by
      show i ∈ ((View.whole main_v0_4).slice (win0_6.rect t0_3)).set
      rw [View.set_slice_whole, Rect.mem_set_unit]
      have h0 : (i 0).val < 1 := (i 0).isLt
      have h1 : (i 1).val < 1 := (i 1).isLt
      have h2 : (i 2).val < 1 := (i 2).isLt
      intro a
      match a with
      | ⟨0, _⟩ => show win0_6.index t0_3 (0 : Fin 3) * 1 ≤ (i 0).val ∧ (i 0).val < win0_6.index t0_3 (0 : Fin 3) * 1 + 1; rw [show win0_6.index t0_3 (0 : Fin 3) = 0 from by decide +kernel]; omega
      | ⟨1, _⟩ => show win0_6.index t0_3 (1 : Fin 3) * 1 ≤ (i 1).val ∧ (i 1).val < win0_6.index t0_3 (1 : Fin 3) * 1 + 1; rw [show win0_6.index t0_3 (1 : Fin 3) = 0 from by decide +kernel]; omega
      | ⟨2, _⟩ => show win0_6.index t0_3 (2 : Fin 3) * 1 ≤ (i 2).val ∧ (i 2).val < win0_6.index t0_3 (2 : Fin 3) * 1 + 1; rw [show win0_6.index t0_3 (2 : Fin 3) = 0 from by decide +kernel]; omega⟩

/-- The host's reshape of the norm to a scalar. -/
theorem tail_norm (c : Dev nD) : Pipeline.afterTail₀ cfgs (dats m) 0 (V0 m) [hostOps1] c main_v4
    = fun _ => norm m c o1 := by
  unfold Pipeline.afterTail₀
  show StableHlo.after hostOps1 _ _ = _
  after_results
  have e := Pipeline.withArrays_arr spec0 launch0.win.arr_inj c (V0 m c) (fun w => (dats m 0 c).arrAt w (cfgs 0).N) 6
  funext j
  refine (cast_one (Pipeline.withArrays (cfgs 0).spec c (V0 m c) (fun w => (dats m 0 c).arrAt w (cfgs 0).N) (Proc.tc.devRef main_v0_4)) j).trans ?_
  exact congrFun (e.trans (arr_norm m c)) o1

/-- The run, read: the five results and the two arguments. -/
theorem run : θ_run defs (onTc (τ := τ) (main (F := F))) ⟨m, fun _ => 0, ρ⟩ fun r => ∀ c : Dev nD,
      r.2.mem ((c : Thread nD τ).loc main_v1) = (fun _ => total m c o1)
      ∧ r.2.mem ((c : Thread nD τ).loc main_v2) = (fun _ => variance m c o1)
      ∧ r.2.mem ((c : Thread nD τ).loc main_v3) = (fun _ => distance m c o1)
      ∧ r.2.mem ((c : Thread nD τ).loc main_v4) = (fun _ => norm m c o1)
      ∧ r.2.mem ((c : Thread nD τ).loc main_v0_0) = means m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (by decide)).trans (tail_total m c),
      ((h c).2 main_v2 (by decide)).trans (tail_variance m c),
      ((h c).2 main_v3 (by decide)).trans (tail_distance m c),
      ((h c).2 main_v4 (by decide)).trans (tail_norm m c),
      ((h c).1 2).trans (arr_means m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Body

end
-- ==== Proof.KernelValue.lean ====
/-
  What one image contributes in the kernel, over the extended reals: for an image whose features are real numbers and whose
  clusters are all met, every intermediate array of the kernel's body at an index is the real number of `Spec`.
-/
module

public import proofs.«01_k».proof.Proof.Spec
public import proofs.«01_k».proof.Proof.Arrays

@[expose] public section

set_option maxRecDepth 65536

noncomputable section

open scoped BigOperators

namespace Cert.KernelIdeal.Image

open Cert.KernelIdeal Cert.KernelIdeal.Gen Idealize.ShloMosaic Cert.Spec

/-- Pixel `p`'s row. -/
abbrev row (p : Fin 16384) : Fin 128 := ⟨p.val / 128, by omega⟩
/-- Pixel `p`'s column. -/
abbrev col (p : Fin 16384) : Fin 128 := ⟨p.val % 128, by omega⟩

/-! ## The combining payloads at an index, for any arguments -/

theorem pay15_read (a b : FVec Ideal S8x1 .f32) (d : Ideal .f32) : k0_pay15 a b d = Ideal.div
    (∑ k : Fin 8, ∑ u : Fin 1, max (b (ix2 k 0) - d) 0 * Ideal.div 1 (a (ix2 k 0)))
    (∑ k : Fin 8, ∑ u : Fin 1, Ideal.div 1 (a (ix2 k 0))) := by
  pointwise [k0_pay15]

theorem pay16_read (a : FVec Ideal S8x64 .f32) (b : FVec Ideal S8x1 .f32) : k0_pay16 a b (ix3 0 0 0) = ∑ i : Fin 8, ∑ u : Fin 1,
    max (Ideal.ofBits .f32 0x3ECCCCCD#32 - Ideal.div (∑ j : Fin 8,
      Ideal.sqrt (max (b (ix2 i 0) + b (ix2 j 0) - Ideal.ofBits .f32 0x40000000#32
          * ∑ c : Fin 64, a (ix2 i c) * a (ix2 j c)) 0
        + (FloatOps.sitofp .f32 (BitVec.setWidth 32 (IntOp.cmpi .eq (BitVec.ofNat 32 i.val) (BitVec.ofNat 32 j.val))) : Ideal .f32))
      * (1 - (FloatOps.sitofp .f32 (BitVec.setWidth 32 (IntOp.cmpi .eq (BitVec.ofNat 32 i.val) (BitVec.ofNat 32 j.val))) : Ideal .f32)))
      (Ideal.ofBits .f32 0x40E00000#32)) 0 := by
  pointwise [k0_pay16]

theorem pay17_read (a : FVec Ideal S8x64 .f32) (c : Fin 64) (k : Fin 8) : k0_pay17 a (ix3 0 c k) = a (ix2 k c) := by
  pointwise [k0_pay17]

theorem pay18_read (a : FVec Ideal S8x1 .f32) (v : Ideal .f32) (b : FVec Ideal S1x1x1 .f32) (l : Fin 128) :
    k0_pay18 a v b (ix2 0 l)
    = Scalar.select (IntOp.cmpi .eq (BitVec.ofNat 32 l.val) 8#32) v 0
      + Scalar.select (IntOp.cmpi .eq (BitVec.ofNat 32 l.val) 9#32) (b (ix3 0 0 0)) 0
      + Scalar.select (IntOp.cmpi .eq (BitVec.ofNat 32 l.val) 10#32)
        (Ideal.div (∑ k : Fin 8, ∑ u : Fin 1, Ideal.sqrt (a (ix2 k 0))) (Ideal.ofBits .f32 0x41000000#32)) 0 := by
  pointwise [k0_pay18]

/-! ## One image -/

variable (x : Vec Ideal S1x64x128x128 .f32) (g : Vec Ideal S1x128x128 .i32)

/-- The image's cluster numbers, pixel by pixel. -/
abbrev gid (p : Fin 16384) : BitVec 32 := g (ix3 0 (row p) (col p))

variable (f : Fin 64 → Fin 16384 → ℝ)
variable (hx : ∀ c p, x (ix4 0 c (row p) (col p)) = ((f c p : ℝ) : EReal))
variable (hc : ∀ k, 0 < count (gid g) k)

include hx in
theorem pay9_at (c : Fin 64) (p : Fin 16384) : k0_pay9 x (ix2 c p) = ((f c p : ℝ) : EReal) := by
  rw [← hx]
  pointwise [k0_pay9, k0_pay8]

theorem pay10_at (k : Fin 8) (p : Fin 16384) : k0_pay10 g (ix2 k p) = ((mask (gid g) k p : ℝ) : EReal) := by
  unfold mask
  simp only [eq_comm (a := gid g p)]
  rw [← sitofp_eq]
  pointwise [k0_pay10]

theorem pay11_at (k : Fin 8) (u : Fin 1) : k0_pay11 g (ix2 k u) = ((count (gid g) k : ℝ) : EReal) := by
  have e : k0_pay11 g (ix2 k u) = ∑ p : Fin 16384, k0_pay10 g (ix2 k p) := by pointwise [k0_pay11]
  rw [e]
  simp only [pay10_at]
  exact coe_sum _ _

include hx hc in
theorem pay12_at (k : Fin 8) (c : Fin 64) : k0_pay12 x g (ix2 k c) = ((mean f (gid g) k c : ℝ) : EReal) := by
  have e : k0_pay12 x g (ix2 k c)
      = Ideal.div (∑ p : Fin 16384, k0_pay10 g (ix2 k p) * k0_pay9 x (ix2 c p)) (k0_pay11 g (ix2 k 0)) := by
    pointwise [k0_pay12]
  rw [e]
  simp only [pay10_at, pay9_at x f hx, pay11_at, ← EReal.coe_mul]
  rw [coe_sum, coe_div _ (hc k).ne']
  unfold mean
  simp only [mul_comm (mask _ _ _)]

include hx hc in
theorem pay13_at (k : Fin 8) (u : Fin 1) : k0_pay13 x g (ix2 k u) = ((sqnorm f (gid g) k : ℝ) : EReal) := by
  have e : k0_pay13 x g (ix2 k u) = ∑ c : Fin 64, k0_pay12 x g (ix2 k c) * k0_pay12 x g (ix2 k c) := by
    pointwise [k0_pay13]
  rw [e]
  simp only [pay12_at x g f hx hc, ← EReal.coe_mul]
  exact coe_sum _ _

include hx hc in
theorem pay14_at (k : Fin 8) (u : Fin 1) : k0_pay14 x g (ix2 k u) = ((spread f (gid g) k : ℝ) : EReal) := by
  have e : k0_pay14 x g (ix2 k u) = Ideal.div (∑ p : Fin 16384, k0_pay10 g (ix2 k p)
      * Ideal.sqrt (max ((∑ c : Fin 64, k0_pay8 x (ix3 c (row p) (col p)) * k0_pay8 x (ix3 c (row p) (col p)))
        + ∑ j : Fin 8, k0_pay10 g (ix2 j p) * (k0_pay13 x g (ix2 j 0)
          - Ideal.ofBits .f32 0x40000000#32 * ∑ c : Fin 64, k0_pay12 x g (ix2 j c) * k0_pay9 x (ix2 c p))) 0))
      (k0_pay11 g (ix2 k u)) := by
    pointwise [k0_pay14]
  have e8 : ∀ (c : Fin 64) (p : Fin 16384), k0_pay8 x (ix3 c (row p) (col p)) = ((f c p : ℝ) : EReal) := fun c p => by
    rw [← hx]
    pointwise [k0_pay8]
  rw [e]
  simp only [pay10_at, pay9_at x f hx, pay11_at, pay12_at x g f hx hc, pay13_at x g f hx hc, e8, lit_two,
    ← EReal.coe_mul, coe_sum, ← EReal.coe_sub, ← EReal.coe_add, coe_max_zero, coe_sqrt (le_max_right _ _)]
  rw [coe_div _ (hc k).ne']
  unfold spread
  congr 2
  refine Finset.sum_congr rfl fun p _ => mask_mul_congr (gid g) fun h => ?_
  rw [sqdist_expand f (gid g) h, max_eq_left (sqdist_nonneg f (gid g) k p)]

include hx hc in
theorem pay15_at : k0_pay15 (k0_pay11 g) (k0_pay14 x g) (Scalar.ofBits .f32 0x3E4CCCCD#32) = ((varTerm f (gid g) : ℝ) : EReal) := by
  rw [pay15_read, show (Scalar.ofBits .f32 0x3E4CCCCD#32 : Ideal .f32) = Ideal.ofBits .f32 0x3E4CCCCD#32 from rfl]
  simp only [pay11_at, pay14_at x g f hx hc, lit_fifth, coe_one_div (hc _).ne', ← EReal.coe_sub, coe_max_zero,
    ← EReal.coe_mul, coe_sum, Fin.sum_univ_one]
  rw [coe_div _ (sum_inv_pos (gid g) hc).ne']
  unfold varTerm
  simp only [mul_one_div]

include hx hc in
theorem pay16_at : k0_pay16 (k0_pay12 x g) (k0_pay13 x g) (ix3 0 0 0) = ((distTerm f (gid g) : ℝ) : EReal) := by
  rw [pay16_read]
  have hd : ∀ i j : Fin 8, (FloatOps.sitofp .f32 (BitVec.setWidth 32 (IntOp.cmpi .eq (BitVec.ofNat 32 i.val) (BitVec.ofNat 32 j.val)))
      : Ideal .f32) = ((diag i j : ℝ) : EReal) := fun i j => by
    rw [sitofp_eq]
    unfold diag
    simp only [word_inj]
  have hs : ∀ i j : Fin 8, 0 ≤ sqgap f (gid g) i j + diag i j := fun i j =>
    add_nonneg (sqgap_nonneg _ _ i j) (diag_nonneg i j)
  simp only [hd, pay12_at x g f hx hc, pay13_at x g f hx hc, lit_two, lit_seven, lit_two_fifths, ← EReal.coe_add,
    ← EReal.coe_mul, coe_sum, ← EReal.coe_sub, sqgap_expand, coe_max_zero, max_eq_left (sqgap_nonneg f (gid g) _ _),
    coe_sqrt (hs _ _), coe_one_sub, coe_div _ (show (7 : ℝ) ≠ 0 by norm_num), Fin.sum_univ_one]
  rfl

include hx hc in
theorem pay17_at (c : Fin 64) (k : Fin 8) : k0_pay17 (k0_pay12 x g) (ix3 0 c k) = ((mean f (gid g) k c : ℝ) : EReal) := by
  exact (pay17_read _ c k).trans (pay12_at x g f hx hc k c)

/-- What an image adds in lane `l`. -/
theorem contrib_at (l : Fin 128) : Body.contrib x g (ix2 0 l)
    = Scalar.select (IntOp.cmpi .eq (BitVec.ofNat 32 l.val) 8#32)
        (k0_pay15 (k0_pay11 g) (k0_pay14 x g) (Scalar.ofBits .f32 0x3E4CCCCD#32)) 0
      + Scalar.select (IntOp.cmpi .eq (BitVec.ofNat 32 l.val) 9#32) (k0_pay16 (k0_pay12 x g) (k0_pay13 x g) (ix3 0 0 0)) 0
      + Scalar.select (IntOp.cmpi .eq (BitVec.ofNat 32 l.val) 10#32)
        (Ideal.div (∑ k : Fin 8, ∑ u : Fin 1, Ideal.sqrt (k0_pay13 x g (ix2 k 0))) (Ideal.ofBits .f32 0x41000000#32)) 0 :=
  pay18_read _ _ _ l

include hx hc in
theorem norm_at : Ideal.div (∑ k : Fin 8, ∑ u : Fin 1, Ideal.sqrt (k0_pay13 x g (ix2 k 0))) (Ideal.ofBits .f32 0x41000000#32)
    = ((normTerm f (gid g) : ℝ) : EReal) := by
  simp only [pay13_at x g f hx hc, coe_sqrt (sqnorm_nonneg f (gid g) _), lit_eight, coe_sum, Fin.sum_univ_one,
    coe_div _ (show (8 : ℝ) ≠ 0 by norm_num)]
  rfl

include hx hc in
theorem contrib_var : Body.contrib x g (ix2 0 8) = ((varTerm f (gid g) : ℝ) : EReal) := by
  rw [contrib_at, pay15_at x g f hx hc, norm_at x g f hx hc, pay16_at x g f hx hc]
  simp [Scalar.select, IntOp.cmpi]

include hx hc in
theorem contrib_dist : Body.contrib x g (ix2 0 9) = ((distTerm f (gid g) : ℝ) : EReal) := by
  rw [contrib_at, pay15_at x g f hx hc, norm_at x g f hx hc, pay16_at x g f hx hc]
  simp [Scalar.select, IntOp.cmpi]

include hx hc in
theorem contrib_norm : Body.contrib x g (ix2 0 10) = ((normTerm f (gid g) : ℝ) : EReal) := by
  rw [contrib_at, pay15_at x g f hx hc, norm_at x g f hx hc, pay16_at x g f hx hc]
  simp [Scalar.select, IntOp.cmpi]

end Cert.KernelIdeal.Image

end
-- ==== Proof.KernelTotal.lean ====
/-
  The kernel's five results over the extended reals: for features that are real numbers and clusters that are all met, each
  is the real number of `Spec`, the three terms averaged over the four images.
-/
module

public import proofs.«01_k».proof.Proof.KernelValue

@[expose] public section

set_option maxRecDepth 65536

noncomputable section

open scoped BigOperators

namespace Cert.KernelIdeal.Image

open Cert.KernelIdeal Cert.KernelIdeal.Gen Cert.KernelIdeal.Body Idealize.ShloMosaic Idealize.ShloMosaic.TcCoe Cert.Spec

/-! ## The last point's payloads -/

/-- The sum of the lanes, all but lane `k` put to zero, is lane `k`. -/
theorem sum_lane (k : Fin 128) (v : Fin 128 → Ideal .f32) :
    (∑ l : Fin 128, Scalar.select (IntOp.cmpi .eq (BitVec.ofNat 32 l.val) (BitVec.ofNat 32 k.val)) (v l) 0 : EReal) = v k := by
  have h : ∀ l : Fin 128, (BitVec.ofNat 32 l.val == BitVec.ofNat 32 k.val) = decide (l = k) := by
    revert k; decide
  have e : ∀ l : Fin 128, (Scalar.select (IntOp.cmpi .eq (BitVec.ofNat 32 l.val) (BitVec.ofNat 32 k.val)) (v l) 0 : EReal)
      = if l = k then v l else 0 := fun l => by
    unfold IntOp.cmpi Scalar.select
    simp only [h]
    by_cases hl : l = k <;> simp [hl]
  rw [Finset.sum_congr rfl fun l _ => e l, Finset.sum_ite_eq' Finset.univ k v, if_pos (Finset.mem_univ k)]

theorem pay4_read (a : FVec Ideal S1x128 .f32) :
    k0_pay4 (F := Ideal) lanes a = Ideal.div (a (ix2 0 8)) (Ideal.ofBits .f32 0x40800000#32) := by
  have e : k0_pay4 (F := Ideal) lanes a = Ideal.div (∑ u : Fin 1, ∑ l : Fin 128,
      Scalar.select (IntOp.cmpi .eq (BitVec.ofNat 32 l.val) 8#32) (a (ix2 0 l)) 0) (Ideal.ofBits .f32 0x40800000#32) := by
    pointwise [k0_pay4]
  rw [e, Fin.sum_univ_one]
  exact congrArg (Ideal.div · _) (sum_lane 8 fun l => a (ix2 0 l))

theorem pay5_read (a : FVec Ideal S1x128 .f32) :
    k0_pay5 (F := Ideal) lanes a = Ideal.div (a (ix2 0 9)) (Ideal.ofBits .f32 0x40800000#32 * Ideal.ofBits .f32 0x41000000#32) := by
  have e : k0_pay5 (F := Ideal) lanes a = Ideal.div (∑ u : Fin 1, ∑ l : Fin 128,
      Scalar.select (IntOp.cmpi .eq (BitVec.ofNat 32 l.val) 9#32) (a (ix2 0 l)) 0)
        (Ideal.ofBits .f32 0x40800000#32 * Ideal.ofBits .f32 0x41000000#32) := by
    pointwise [k0_pay5]
  rw [e, Fin.sum_univ_one]
  exact congrArg (Ideal.div · _) (sum_lane 9 fun l => a (ix2 0 l))

theorem pay6_read (a : FVec Ideal S1x128 .f32) :
    k0_pay6 (F := Ideal) lanes a = Ideal.div (a (ix2 0 10)) (Ideal.ofBits .f32 0x40800000#32) := by
  have e : k0_pay6 (F := Ideal) lanes a = Ideal.div (∑ u : Fin 1, ∑ l : Fin 128,
      Scalar.select (IntOp.cmpi .eq (BitVec.ofNat 32 l.val) 10#32) (a (ix2 0 l)) 0) (Ideal.ofBits .f32 0x40800000#32) := by
    pointwise [k0_pay6]
  rw [e, Fin.sum_univ_one]
  exact congrArg (Ideal.div · _) (sum_lane 10 fun l => a (ix2 0 l))

theorem pay7_read (a : FVec Ideal S1x128 .f32) : k0_pay7 (F := Ideal) lanes a (ix3 0 0 0)
    = k0_pay4 (F := Ideal) lanes a + k0_pay5 (F := Ideal) lanes a + Ideal.ofBits .f32 0x3A83126F#32 * k0_pay6 (F := Ideal) lanes a := by
  pointwise [k0_pay7]

theorem pay1_read (v : Ideal .f32) : k0_pay1 v (ix3 0 0 0) = v := by pointwise [k0_pay1]
theorem pay2_read (v : Ideal .f32) : k0_pay2 v (ix3 0 0 0) = v := by pointwise [k0_pay2]
theorem pay3_read (v : Ideal .f32) : k0_pay3 v (ix3 0 0 0) = v := by pointwise [k0_pay3]

/-! ## The blocks the points read -/

variable (m : (ℓ : Loc nD τ sig) → Buf (Elt Ideal) ℓ) (c : Dev nD)

theorem index0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

theorem index1 : ∀ t : Fin cfg0.N, win0_1.index t (0 : Fin 3) = t.val ∧ win0_1.index t (1 : Fin 3) = 0
    ∧ win0_1.index t (2 : Fin 3) = 0 :=
  (by decide +kernel : ∀ t : Fin grid0.N, _)

/-- The features, as the caller gave them. -/
abbrev feats : FVec Ideal S4x64x128x128 .f32 := m ((c : Thread nD τ).loc main_arg0)
/-- The cluster numbers, as the caller gave them. -/
abbrev words : IVec S4x128x128 32 := m ((c : Thread nD τ).loc main_arg1)

/-- Point `n` reads image `n`'s features. -/
theorem feat_at (n : Fin 4) (ch : Fin 64) (h w : Fin 128) : feat m c (pt n) (ix4 0 ch h w) = feats m c (ix4 n ch h w) := by
  obtain ⟨e0, e1, e2, e3⟩ := index0 (pt n)
  show feats m c (((cfg0.win 0).blk (pt n)).view.emb (ix4 0 ch h w)) = _
  refine congrArg (feats m c) (funext fun a => Fin.ext ?_)
  match a with
  | ⟨0, _⟩ => show win0_0.index (pt n) (0 : Fin 4) * 1 + 1 * 0 = n.val; rw [e0]; show n.val * 1 + 1 * 0 = n.val; omega
  | ⟨1, _⟩ => show win0_0.index (pt n) (1 : Fin 4) * 64 + 1 * ch.val = ch.val; omega
  | ⟨2, _⟩ => show win0_0.index (pt n) (2 : Fin 4) * 128 + 1 * h.val = h.val; omega
  | ⟨3, _⟩ => show win0_0.index (pt n) (3 : Fin 4) * 128 + 1 * w.val = w.val; omega

/-- Point `n` reads image `n`'s cluster numbers. -/
theorem ids_at (n : Fin 4) (h w : Fin 128) : ids m c (pt n) (ix3 0 h w) = words m c (ix3 n h w) := by
  obtain ⟨e0, e1, e2⟩ := index1 (pt n)
  show words m c (((cfg0.win 1).blk (pt n)).view.emb (ix3 0 h w)) = _
  refine congrArg (words m c) (funext fun a => Fin.ext ?_)
  match a with
  | ⟨0, _⟩ => show win0_1.index (pt n) (0 : Fin 3) * 1 + 1 * 0 = n.val; rw [e0]; show n.val * 1 + 1 * 0 = n.val; omega
  | ⟨1, _⟩ => show win0_1.index (pt n) (1 : Fin 3) * 128 + 1 * h.val = h.val; omega
  | ⟨2, _⟩ => show win0_1.index (pt n) (2 : Fin 3) * 128 + 1 * w.val = w.val; omega

/-! ## The results -/

/-- The lane vector after the last point, lane by lane. -/
theorem acc_at (l : Fin 128) : accLast m c (ix2 0 l) = (((contrib (feat m c (pt 0)) (ids m c (pt 0)) (ix2 0 l)
    + contrib (feat m c (pt 1)) (ids m c (pt 1)) (ix2 0 l)) + contrib (feat m c (pt 2)) (ids m c (pt 2)) (ix2 0 l))
    + contrib (feat m c (pt 3)) (ids m c (pt 3)) (ix2 0 l) : EReal) := rfl

/-- Image `n`'s cluster numbers, pixel by pixel. -/
abbrev word (n : Fin 4) (p : Fin 16384) : BitVec 32 := words m c (ix3 n (row p) (col p))

theorem gid_eq (n : Fin 4) : gid (ids m c (pt n)) = word m c n := funext fun p => ids_at m c n (row p) (col p)

variable (f : Fin 4 → Fin 64 → Fin 16384 → ℝ)
variable (hx : ∀ n ch p, feats m c (ix4 n ch (row p) (col p)) = ((f n ch p : ℝ) : EReal))
variable (hc : ∀ n k, 0 < count (word m c n) k)

include hx in
theorem hx' (n : Fin 4) (ch : Fin 64) (p : Fin 16384) : feat m c (pt n) (ix4 0 ch (row p) (col p)) = ((f n ch p : ℝ) : EReal) :=
  (feat_at m c n ch (row p) (col p)).trans (hx n ch p)

include hc in
theorem hc' (n : Fin 4) (k : Fin 8) : 0 < count (gid (ids m c (pt n))) k := by rw [gid_eq]; exact hc n k

include hx hc in
theorem acc_var : accLast m c (ix2 0 8) = ((∑ n, varTerm (f n) (word m c n) : ℝ) : EReal) := by
  rw [acc_at]
  simp only [contrib_var _ _ (f _) (hx' m c f hx _) (hc' m c hc _), gid_eq, ← EReal.coe_add, Fin.sum_univ_four]

include hx hc in
theorem acc_dist : accLast m c (ix2 0 9) = ((∑ n, distTerm (f n) (word m c n) : ℝ) : EReal) := by
  rw [acc_at]
  simp only [contrib_dist _ _ (f _) (hx' m c f hx _) (hc' m c hc _), gid_eq, ← EReal.coe_add, Fin.sum_univ_four]

include hx hc in
theorem acc_norm : accLast m c (ix2 0 10) = ((∑ n, normTerm (f n) (word m c n) : ℝ) : EReal) := by
  rw [acc_at]
  simp only [contrib_norm _ _ (f _) (hx' m c f hx _) (hc' m c hc _), gid_eq, ← EReal.coe_add, Fin.sum_univ_four]

include hx hc in
theorem variance_at : variance m c o1 = (((∑ n, varTerm (f n) (word m c n)) / 4 : ℝ) : EReal) :=
  (pay1_read _).trans (by rw [pay4_read, acc_var m c f hx hc, lit_four, coe_div _ (by norm_num)])

include hx hc in
theorem distance_at : distance m c o1 = (((∑ n, distTerm (f n) (word m c n)) / 32 : ℝ) : EReal) :=
  (pay2_read _).trans (by
    rw [pay5_read, acc_dist m c f hx hc, lit_four, lit_eight, ← EReal.coe_mul, coe_div _ (by norm_num)]
    norm_num)

include hx hc in
theorem norm_result_at : Body.norm m c o1 = (((∑ n, normTerm (f n) (word m c n)) / 4 : ℝ) : EReal) :=
  (pay3_read _).trans (by rw [pay6_read, acc_norm m c f hx hc, lit_four, coe_div _ (by norm_num)])

/-- The variance scalar. -/
abbrev varianceOut : EReal := variance m c o1
/-- The distance scalar. -/
abbrev distanceOut : EReal := distance m c o1
/-- The norm scalar. -/
abbrev normOut : EReal := Body.norm m c o1
/-- The total scalar. -/
abbrev totalOut : EReal := total m c o1

/-- The total, of the three other scalars. -/
theorem total_at : totalOut m c = varianceOut m c + distanceOut m c + Ideal.ofBits .f32 0x3A83126F#32 * normOut m c := by
  have e1 : varianceOut m c = k0_pay4 (F := Ideal) lanes (accLast m c) := pay1_read _
  have e2 : distanceOut m c = k0_pay5 (F := Ideal) lanes (accLast m c) := pay2_read _
  have e3 : normOut m c = k0_pay6 (F := Ideal) lanes (accLast m c) := pay3_read _
  rw [e1, e2, e3]
  exact pay7_read _

include hx hc in
theorem means_at (n : Fin 4) (ch : Fin 64) (k : Fin 8) :
    means m c (ix3 n ch k) = ((mean (f n) (word m c n) k ch : ℝ) : EReal) :=
  (pay17_at _ _ (f n) (hx' m c f hx n) (hc' m c hc n) ch k).trans (by rw [gid_eq])

end Cert.KernelIdeal.Image

end
-- ==== Proof.RefValue.lean ====
/-
  The reference's arrays at an index, over the extended reals: for features that are real numbers and clusters that are all
  met, each is the real number of `Spec` for the image it belongs to.
-/
module

public import proofs.«01_k».proof.Proof.Spec
public import proofs.«01_k».proof.Proof.Gen.ReferenceIdeal.Read

@[expose] public section

set_option maxRecDepth 65536

noncomputable section

open scoped BigOperators

namespace Cert.ReferenceIdeal.Image

open Cert.ReferenceIdeal Cert.ReferenceIdeal.Gen Cert.ReferenceIdeal.Read Idealize.ShloMosaic Cert.Spec

/-- The pick of a cluster's mean for each pixel: the word at the pixel, read signed and clamped to the clusters' numbers. -/
theorem gather_at (a : FVec Ideal S4x64x8 .f32) (idx : IVec S4x16384x1 32) (n : Fin 4) (c : Fin 64) (p : Fin 16384) :
    Host.gather gather_S4x64x8_S4x16384x1_S4x64x16384_1_2_0_0_2_2_1641 a idx (ix3 n c p)
      = a (ix3 n c ⟨min (idx (ix3 n p 0)).toInt.toNat 7, by omega⟩) := by
  unfold Host.gather
  refine congrArg a (funext fun d => Fin.ext ?_)
  have hk : ∀ d : Fin 3, d ≠ 1 → d ∉ (gather_S4x64x8_S4x16384x1_S4x64x16384_1_2_0_0_2_2_1641).sKept := by decide
  match d with
  | ⟨0, _⟩ =>
    show gather_S4x64x8_S4x16384x1_S4x64x16384_1_2_0_0_2_2_1641.start (ix3 n c p) idx (0 : Fin 3)
      + gather_S4x64x8_S4x16384x1_S4x64x16384_1_2_0_0_2_2_1641.batchCoord (ix3 n c p) (0 : Fin 3)
      + gather_S4x64x8_S4x16384x1_S4x64x16384_1_2_0_0_2_2_1641.offCoord (ix3 n c p) (0 : Fin 3) = n.val
    rw [GatherDims.start_batching _ _ _ _ (List.mem_singleton.mpr rfl), GatherDims.offCoord_eq_zero _ _ _ (hk 0 (by decide))]
    unfold GatherDims.batchCoord
    rw [dif_pos (by decide)]
    show 0 + n.val + 0 = n.val
    omega
  | ⟨1, _⟩ =>
    show gather_S4x64x8_S4x16384x1_S4x64x16384_1_2_0_0_2_2_1641.start (ix3 n c p) idx (1 : Fin 3)
      + gather_S4x64x8_S4x16384x1_S4x64x16384_1_2_0_0_2_2_1641.batchCoord (ix3 n c p) (1 : Fin 3)
      + gather_S4x64x8_S4x16384x1_S4x64x16384_1_2_0_0_2_2_1641.offCoord (ix3 n c p) (1 : Fin 3) = c.val
    rw [GatherDims.batchCoord_eq_zero _ _ _ (by decide)]
    unfold GatherDims.start GatherDims.offCoord
    rw [dif_neg (by decide), dif_pos (by decide)]
    show 0 + 0 + c.val = c.val
    omega
  | ⟨2, _⟩ =>
    show gather_S4x64x8_S4x16384x1_S4x64x16384_1_2_0_0_2_2_1641.start (ix3 n c p) idx (2 : Fin 3)
      + gather_S4x64x8_S4x16384x1_S4x64x16384_1_2_0_0_2_2_1641.batchCoord (ix3 n c p) (2 : Fin 3)
      + gather_S4x64x8_S4x16384x1_S4x64x16384_1_2_0_0_2_2_1641.offCoord (ix3 n c p) (2 : Fin 3) = min (idx (ix3 n p 0)).toInt.toNat 7
    rw [GatherDims.batchCoord_eq_zero _ _ _ (by decide), GatherDims.offCoord_eq_zero _ _ _ (hk 2 (by decide))]
    unfold GatherDims.start
    rw [dif_pos (by decide)]
    have e : ∀ h, GatherDims.siIdx gather_S4x64x8_S4x16384x1_S4x64x16384_1_2_0_0_2_2_1641 (ix3 n c p) ⟨0, h⟩ = ix3 n p 0 := by
      intro h
      funext b
      match b with
      | ⟨0, _⟩ => rfl
      | ⟨1, _⟩ => rfl
      | ⟨2, _⟩ => rfl
    exact congrArg (fun i => min (idx i).toInt.toNat 7) (e _)

/-- Pixel `p`'s row. -/
abbrev row (p : Fin 16384) : Fin 128 := ⟨p.val / 128, by omega⟩
/-- Pixel `p`'s column. -/
abbrev col (p : Fin 16384) : Fin 128 := ⟨p.val % 128, by omega⟩

variable (x : (⟨S4x64x128x128, .f32⟩ : BufTy).Contents (Elt Ideal)) (g : (⟨S4x128x128, .i32⟩ : BufTy).Contents (Elt Ideal))

/-- Image `n`'s cluster numbers, pixel by pixel. -/
abbrev gid (n : Fin 4) (p : Fin 16384) : BitVec 32 := g (ix3 n (row p) (col p))

variable (f : Fin 4 → Fin 64 → Fin 16384 → ℝ)
variable (hx : ∀ n c p, x (ix4 n c (row p) (col p)) = ((f n c p : ℝ) : EReal))
variable (hc : ∀ n k, 0 < count (gid g n) k)

theorem mask_at (n : Fin 4) (p : Fin 16384) (k : Fin 8) : val_main_v2 (F := Ideal) g (ix3 n p k) = ((mask (gid g n) k p : ℝ) : EReal) := by
  unfold mask
  rw [← uitofp_eq]
  pointwise [val_main_v2, val_main_call0_v5, val_main_call0_v4, val_main_call0_v3, val_main_call0_v2, val_main_call0_v1, val_main_call0_v0, val_main_v1]

theorem count_at (n : Fin 4) (k : Fin 8) : val_main_v3 (F := Ideal) g (ix2 n k) = ((count (gid g n) k : ℝ) : EReal) := by
  have e : val_main_v3 (F := Ideal) g (ix2 n k) = ∑ p : Fin 16384, val_main_v2 (F := Ideal) g (ix3 n p k) := by
    pointwise [val_main_v3, val_main_cst]
  rw [e]
  simp only [mask_at]
  exact coe_sum _ _

include hx hc in
theorem mean_at (n : Fin 4) (c : Fin 64) (k : Fin 8) :
    val_main_v7 (F := Ideal) x g (ix3 n c k) = ((mean (f n) (gid g n) k c : ℝ) : EReal) := by
  have e : val_main_v7 (F := Ideal) x g (ix3 n c k) = Ideal.div (∑ p : Fin 16384, x (ix4 n c (row p) (col p))
      * val_main_v2 (F := Ideal) g (ix3 n p k)) (val_main_v3 (F := Ideal) g (ix2 n k)) := by
    pointwise [val_main_v7, val_main_v6, val_main_v5, val_main_v4, val_main_v0]
  rw [e]
  simp only [mask_at, count_at, hx, ← EReal.coe_mul, coe_sum]
  rw [coe_div _ (hc n k).ne']
  rfl

/-- The cluster whose mean the reference picks for pixel `p`. -/
def pick (n : Fin 4) (p : Fin 16384) : Fin 8 := ⟨min (val_main_v13 (F := Ideal) g (ix3 n p 0)).toInt.toNat 7, by omega⟩

theorem pick_word (w : BitVec 32) (k : Fin 8) (h : w = BitVec.ofNat 32 k.val) :
    min (Scalar.select (IntOp.cmpi .slt w 0#32) (IntOp.addi w 8#32) w).toInt.toNat 7 = k.val := by
  subst h
  revert k
  decide

/-- For a pixel of cluster `k` it is `k`. -/
theorem pick_eq {n : Fin 4} {p : Fin 16384} {k : Fin 8} (h : gid g n p = BitVec.ofNat 32 k.val) : pick g n p = k := by
  have e : val_main_v13 (F := Ideal) g (ix3 n p 0)
      = Scalar.select (IntOp.cmpi .slt (gid g n p) 0#32) (IntOp.addi (gid g n p) 8#32) (gid g n p) := by
    pointwise [val_main_v13, val_main_v12, val_main_v11, val_main_v10, val_main_v9, val_main_v8, val_main_v1, val_main_c, val_main_c_0]
  apply Fin.ext
  show min (val_main_v13 (F := Ideal) g (ix3 n p 0)).toInt.toNat 7 = k.val
  rw [e]
  exact pick_word _ k h

include hx hc in
theorem dist_at (n : Fin 4) (p : Fin 16384) :
    val_main_v16 (F := Ideal) x g (ix2 n p) = ((Real.sqrt (sqdist (f n) (gid g n) (pick g n p) p) : ℝ) : EReal) := by
  have e : val_main_v16 (F := Ideal) x g (ix2 n p) = Ideal.sqrt (∑ c : Fin 64,
      (x (ix4 n c (row p) (col p)) - val_main_v14 (F := Ideal) x g (ix3 n c p))
        * (x (ix4 n c (row p) (col p)) - val_main_v14 (F := Ideal) x g (ix3 n c p))) := by
    pointwise [val_main_v16, val_main_call1_v1, val_main_call1_v0, val_main_call1_cst, val_main_v15, val_main_v0]
  have e14 : ∀ c, val_main_v14 (F := Ideal) x g (ix3 n c p) = ((mean (f n) (gid g n) (pick g n p) c : ℝ) : EReal) := fun c => by
    rw [← mean_at x g f hx hc]
    exact gather_at _ _ n c p
  rw [e]
  simp only [hx, e14, ← EReal.coe_sub, ← EReal.coe_mul, coe_sum]
  exact coe_sqrt (sqdist_nonneg (f n) (gid g n) (pick g n p) p)

include hx hc in
theorem spread_at (n : Fin 4) (k : Fin 8) :
    val_main_v18 (F := Ideal) x g (ix2 n k) = ((spread (f n) (gid g n) k : ℝ) : EReal) := by
  have e : val_main_v18 (F := Ideal) x g (ix2 n k) = Ideal.div (∑ p : Fin 16384, val_main_v16 (F := Ideal) x g (ix2 n p)
      * val_main_v2 (F := Ideal) g (ix3 n p k)) (val_main_v3 (F := Ideal) g (ix2 n k)) := by
    pointwise [val_main_v18, val_main_v17]
  rw [e]
  simp only [mask_at, count_at, dist_at x g f hx hc, ← EReal.coe_mul, coe_sum]
  rw [coe_div _ (hc n k).ne']
  unfold spread
  congr 2
  refine Finset.sum_congr rfl fun p _ => (mul_comm _ _).trans (mask_mul_congr (gid g n) fun h => ?_)
  rw [pick_eq g h]

include hx hc in
theorem var_at (n : Fin 4) : val_main_v28 (F := Ideal) x g (ix1 n) = ((varTerm (f n) (gid g n) : ℝ) : EReal) := by
  have e : val_main_v28 (F := Ideal) x g (ix1 n) = Ideal.div
      (∑ k : Fin 8, Ideal.div (max (val_main_v18 (F := Ideal) x g (ix2 n k) - Ideal.ofBits .f32 0x3E4CCCCD#32) 0)
        (val_main_v3 (F := Ideal) g (ix2 n k)))
      (∑ k : Fin 8, Ideal.div 1 (val_main_v3 (F := Ideal) g (ix2 n k))) := by
    pointwise [val_main_v28, val_main_v27, val_main_v26, val_main_v25, val_main_v24, val_main_v23, val_main_v22, val_main_v21, val_main_v20, val_main_v19,
      val_main_cst_1, val_main_cst_2, val_main_cst_3, val_main_cst_4, val_main_cst_5]
  rw [e]
  simp only [count_at, spread_at x g f hx hc, lit_fifth, coe_one_div (hc n _).ne', ← EReal.coe_sub, coe_max_zero,
    coe_div _ (hc n _).ne', coe_sum]
  exact coe_div _ (sum_inv_pos (gid g n) (hc n)).ne'

include hx hc in
theorem gap_at (n : Fin 4) (i j : Fin 8) :
    val_main_v35 (F := Ideal) x g (ix3 n i j) = ((sqgap (f n) (gid g n) i j : ℝ) : EReal) := by
  have e : val_main_v35 (F := Ideal) x g (ix3 n i j) = ∑ c : Fin 64,
      (val_main_v7 (F := Ideal) x g (ix3 n c i) - val_main_v7 (F := Ideal) x g (ix3 n c j))
        * (val_main_v7 (F := Ideal) x g (ix3 n c i) - val_main_v7 (F := Ideal) x g (ix3 n c j)) := by
    pointwise [val_main_v35, val_main_v34, val_main_v33, val_main_v32, val_main_v31, val_main_v30, val_main_v29, val_main_cst_6]
  rw [e]
  simp only [mean_at x g f hx hc, ← EReal.coe_sub, ← EReal.coe_mul, coe_sum]
  rfl

include hx hc in
theorem distTerm_at (n : Fin 4) : val_main_v58 (F := Ideal) x g (ix1 n) = ((distTerm (f n) (gid g n) : ℝ) : EReal) := by
  have e : val_main_v58 (F := Ideal) x g (ix1 n) = ∑ i : Fin 8,
      max (Ideal.ofBits .f32 0x3ECCCCCD#32 - Ideal.div (∑ j : Fin 8,
        Ideal.sqrt (val_main_v35 (F := Ideal) x g (ix3 n i j)
          + (FloatOps.uitofp .f32 (IntOp.cmpi .eq (IntOp.addi (BitVec.ofNat 32 i.val) 0#32) (BitVec.ofNat 32 j.val)) : Ideal .f32))
        * (1 - (FloatOps.uitofp .f32 (IntOp.cmpi .eq (IntOp.addi (BitVec.ofNat 32 i.val) 0#32) (BitVec.ofNat 32 j.val)) : Ideal .f32)))
        (Ideal.ofBits .f32 0x40E00000#32)) 0 := by
    pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36,
      val_main_c_7, val_main_cst_8, val_main_cst_9, val_main_cst_10, val_main_cst_11, val_main_cst_12, val_main_cst_13]
  have hd : ∀ i j : Fin 8, (FloatOps.uitofp .f32 (IntOp.cmpi .eq (IntOp.addi (BitVec.ofNat 32 i.val) 0#32) (BitVec.ofNat 32 j.val))
      : Ideal .f32) = ((diag i j : ℝ) : EReal) := fun i j => by
    rw [uitofp_eq, show IntOp.addi (BitVec.ofNat 32 i.val) 0#32 = BitVec.ofNat 32 i.val from BitVec.add_zero _]
    unfold diag
    simp only [word_inj]
  have hs : ∀ i j : Fin 8, 0 ≤ sqgap (f n) (gid g n) i j + diag i j := fun i j =>
    add_nonneg (sqgap_nonneg _ _ i j) (diag_nonneg i j)
  rw [e]
  simp only [hd, gap_at x g f hx hc, lit_seven, lit_two_fifths, ← EReal.coe_add, ← EReal.coe_mul, coe_sum, ← EReal.coe_sub,
    coe_max_zero, coe_sqrt (hs _ _), coe_one_sub, coe_div _ (show (7 : ℝ) ≠ 0 by norm_num)]
  rfl

include hx hc in
theorem normTerm_at (n : Fin 4) : val_main_v62 (F := Ideal) x g (ix1 n) = ((normTerm (f n) (gid g n) : ℝ) : EReal) := by
  have e : val_main_v62 (F := Ideal) x g (ix1 n) = Ideal.div (∑ k : Fin 8, Ideal.sqrt (∑ c : Fin 64,
      val_main_v7 (F := Ideal) x g (ix3 n c k) * val_main_v7 (F := Ideal) x g (ix3 n c k))) (Ideal.ofBits .f32 0x41000000#32) := by
    pointwise [val_main_v62, val_main_v61, val_main_v60, val_main_v59, val_main_call2_v1, val_main_call2_v0, val_main_call2_cst, val_main_cst_14, val_main_cst_15]
  have hs : ∀ k : Fin 8, 0 ≤ ∑ c : Fin 64, mean (f n) (gid g n) k c * mean (f n) (gid g n) k c := fun k => sqnorm_nonneg (f n) (gid g n) k
  rw [e]
  simp only [mean_at x g f hx hc, ← EReal.coe_mul, coe_sum, coe_sqrt (hs _), lit_eight, coe_div _ (show (8 : ℝ) ≠ 0 by norm_num)]
  rfl

include hx hc in
/-- The variance result. -/
theorem v64_at (j : S_.Idx) : val_main_v64 (F := Ideal) x g j
    = ((((∑ n, varTerm (f n) (gid g n)) / 4 : ℝ)) : EReal) := by
  have e : val_main_v64 (F := Ideal) x g j
      = Ideal.div (∑ n : Fin 4, val_main_v28 (F := Ideal) x g (ix1 n)) (Ideal.ofBits .f32 0x40800000#32) := by
    pointwise [val_main_v64, val_main_v63, val_main_cst_16, val_main_cst_17]
  rw [e]
  simp only [var_at x g f hx hc, coe_sum, lit_four, coe_div _ (show (4 : ℝ) ≠ 0 by norm_num)]

include hx hc in
/-- The distance result. -/
theorem v66_at (j : S_.Idx) : val_main_v66 (F := Ideal) x g j
    = ((((∑ n, distTerm (f n) (gid g n)) / 32 : ℝ)) : EReal) := by
  have e : val_main_v66 (F := Ideal) x g j
      = Ideal.div (∑ n : Fin 4, val_main_v58 (F := Ideal) x g (ix1 n)) (Ideal.ofBits .f32 0x42000000#32) := by
    pointwise [val_main_v66, val_main_v65, val_main_cst_18, val_main_cst_19]
  rw [e]
  simp only [distTerm_at x g f hx hc, coe_sum, lit_thirty_two, coe_div _ (show (32 : ℝ) ≠ 0 by norm_num)]

include hx hc in
/-- The norm result. -/
theorem v68_at (j : S_.Idx) : val_main_v68 (F := Ideal) x g j
    = ((((∑ n, normTerm (f n) (gid g n)) / 4 : ℝ)) : EReal) := by
  have e : val_main_v68 (F := Ideal) x g j
      = Ideal.div (∑ n : Fin 4, val_main_v62 (F := Ideal) x g (ix1 n)) (Ideal.ofBits .f32 0x40800000#32) := by
    pointwise [val_main_v68, val_main_v67, val_main_cst_20, val_main_cst_21]
  rw [e]
  simp only [normTerm_at x g f hx hc, coe_sum, lit_four, coe_div _ (show (4 : ℝ) ≠ 0 by norm_num)]

/-- The total, of the three other scalars. -/
theorem v73_at (j : S_.Idx) : val_main_v73 (F := Ideal) x g j
    = val_main_v64 (F := Ideal) x g j + val_main_v66 (F := Ideal) x g j
      + Ideal.ofBits .f32 0x3A83126F#32 * val_main_v68 (F := Ideal) x g j := by
  pointwise [val_main_v73, val_main_v72, val_main_v71, val_main_v70, val_main_v69, val_main_cst_22, val_main_cst_23, val_main_cst_24]

end Cert.ReferenceIdeal.Image

end
-- ==== Proof.Pre.lean ====
/-
  What the precondition says over the extended reals: every feature is a real number, and every cluster of every image is
  met by one of its pixels.
-/
module

public import proofs.«01_k».proof.Proof.Spec
public import proofs.«01_k».proof.Proof.Gen.Pre_finite_and_every_cluster_met
public import Idealize.ShloMosaic.Lib.Routing.OpsOrder

@[expose] public section

set_option maxRecDepth 65536

noncomputable section

open scoped BigOperators

namespace Cert.Pre_finite_and_every_cluster_met.Reading

open Cert.Pre_finite_and_every_cluster_met Idealize.ShloMosaic

variable (x : FVec Ideal S4x64x128x128 .f32) (g : IVec S4x128x128 32)

/-- Every feature is a real number. -/
theorem real_of_pre (h : (fn (F := Ideal) x g).1 = fun _ => 1#1) (n : Fin 4) (c : Fin 64) (r w : Fin 128) :
    ∃ v : ℝ, x (ix4 n c r w) = ((v : ℝ) : EReal) := by
  have e := congrFun h (ix4 n c r w)
  pointwise [fn] at e
  have top : Ideal.ofBits .f32 0x7F800000#32 = (⊤ : EReal) := by simp [Ideal.ofBits, Ideal.ieee]
  have lt : max (x (ix4 n c r w) : EReal) (-(x (ix4 n c r w) : EReal)) < ⊤ := by
    have e' := e
    rw [top] at e'
    by_contra hn
    rw [show decide (FloatOps.absf (x (ix4 n c r w)) < (⊤ : EReal)) = false from decide_eq_false hn] at e'
    exact absurd e' (by decide)
  have h1 : (x (ix4 n c r w) : EReal) ≠ ⊤ := ((le_max_left _ _).trans_lt lt).ne
  have h2 : (x (ix4 n c r w) : EReal) ≠ ⊥ := fun hb => by
    have := ((le_max_right _ _).trans_lt lt).ne
    rw [hb, EReal.neg_bot] at this
    exact this rfl
  exact ⟨EReal.toReal (x (ix4 n c r w)), (EReal.coe_toReal h1 h2).symm⟩

/-- Every cluster is met. -/
theorem met_of_pre (h : (fn (F := Ideal) x g).2 = fun _ => 1#1) (n : Fin 4) (k : Fin 8) :
    ∃ p : Fin 16384, g (ix3 n ⟨p.val / 128, by omega⟩ ⟨p.val % 128, by omega⟩) = BitVec.ofNat 32 k.val := by
  have e := congrFun h (ix2 n k)
  pointwise [fn] at e
  obtain ⟨p, -, hp⟩ := (Routing.fold_ori _ _).mp e
  refine ⟨p, ?_⟩
  by_contra hn
  rw [IntOp.cmpi, beq_eq_false_iff_ne.mpr hn] at hp
  exact absurd hp (by decide)

end Cert.Pre_finite_and_every_cluster_met.Reading

end
-- ==== Proof.lean ====
/-
  The proof of `Cert.Claim` (proofs.«01_k».proof.Defs). The kernel's frames are its generated frame theorem; the reference's
  frames are its generated run, on a signature with no semaphore. The value claim: the kernel's run (`Body.run`) and the
  reference's run end with the same five results, each shown to be the same real number (`Spec`) where the features are
  real numbers and every cluster is met, as the precondition says.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_every_cluster_met
public import proofs.«01_k».proof.Proof.Gen.ReferenceIdeal.Run
public import proofs.«01_k».proof.Proof.Gen.ReferenceIdeal.Read
public import proofs.«01_k».proof.Proof.Spec
public import proofs.«01_k».proof.Proof.Body
public import proofs.«01_k».proof.Proof.Arrays
public import proofs.«01_k».proof.Proof.KernelValue
public import proofs.«01_k».proof.Proof.KernelTotal
public import proofs.«01_k».proof.Proof.RefValue
public import proofs.«01_k».proof.Proof.Pre
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference leaves its arguments and every semaphore counter as they were. -/
theorem frame_reference (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
          ∧ r.2.mem ((c.tc : Thread ReferenceIdeal.nD ReferenceIdeal.τ).loc ReferenceIdeal.main_arg1)
            = m ((c.tc : Thread ReferenceIdeal.nD ReferenceIdeal.τ).loc ReferenceIdeal.main_arg1))
        ∧ r.2.sem = fun _ => 0) :=
  (θ_run (ReferenceIdeal.defs (F := Ideal)) _ _).mono
    (fun r h => ⟨fun c => (h c).2.2.2.2.2, sem_eq_zero_of_no_sems rfl r.2⟩) (ReferenceIdeal.Value.run m ρ)

section Values

variable (m : (ℓ : Loc KernelIdeal.nD KernelIdeal.τ KernelIdeal.sig) → Buf (Elt Ideal) ℓ) (c : Dev KernelIdeal.nD)

/-- The real number behind channel `ch` of pixel `p` of image `n`. -/
def real (n : Fin 4) (ch : Fin 64) (p : Fin 16384) : ℝ :=
  EReal.toReal (KernelIdeal.Image.feats m c (ix4 n ch (KernelIdeal.Image.row p) (KernelIdeal.Image.col p)))

variable (hpre : Pre_KernelIdeal_finite_and_every_cluster_met m)

include hpre in
theorem real_eq (n : Fin 4) (ch : Fin 64) (p : Fin 16384) :
    KernelIdeal.Image.feats m c (ix4 n ch (KernelIdeal.Image.row p) (KernelIdeal.Image.col p)) = ((real m c n ch p : ℝ) : EReal) := by
  obtain ⟨v, hv⟩ := Pre_finite_and_every_cluster_met.Reading.real_of_pre (KernelIdeal.Image.feats m c) (KernelIdeal.Image.words m c)
    (hpre c).1 n ch (KernelIdeal.Image.row p) (KernelIdeal.Image.col p)
  unfold real
  rw [hv, EReal.toReal_coe]

include hpre in
theorem count_ne (n : Fin 4) (k : Fin 8) : 0 < Spec.count (KernelIdeal.Image.word m c n) k := by
  obtain ⟨p, hp⟩ := Pre_finite_and_every_cluster_met.Reading.met_of_pre (KernelIdeal.Image.feats m c) (KernelIdeal.Image.words m c)
    (hpre c).2 n k
  exact Spec.count_pos _ hp

include hpre in
theorem variance_eq (j : ReferenceIdeal.S_.Idx) :
    ReferenceIdeal.Read.val_main_v64 (F := Ideal) (KernelIdeal.Image.feats m c) (KernelIdeal.Image.words m c) j
      = KernelIdeal.Image.varianceOut m c :=
  (ReferenceIdeal.Image.v64_at _ _ (real m c) (real_eq m c hpre) (count_ne m c hpre) j).trans
    (KernelIdeal.Image.variance_at m c (real m c) (real_eq m c hpre) (count_ne m c hpre)).symm

include hpre in
theorem distance_eq (j : ReferenceIdeal.S_.Idx) :
    ReferenceIdeal.Read.val_main_v66 (F := Ideal) (KernelIdeal.Image.feats m c) (KernelIdeal.Image.words m c) j
      = KernelIdeal.Image.distanceOut m c :=
  (ReferenceIdeal.Image.v66_at _ _ (real m c) (real_eq m c hpre) (count_ne m c hpre) j).trans
    (KernelIdeal.Image.distance_at m c (real m c) (real_eq m c hpre) (count_ne m c hpre)).symm

include hpre in
theorem norm_eq (j : ReferenceIdeal.S_.Idx) :
    ReferenceIdeal.Read.val_main_v68 (F := Ideal) (KernelIdeal.Image.feats m c) (KernelIdeal.Image.words m c) j
      = KernelIdeal.Image.normOut m c :=
  (ReferenceIdeal.Image.v68_at _ _ (real m c) (real_eq m c hpre) (count_ne m c hpre) j).trans
    (KernelIdeal.Image.norm_result_at m c (real m c) (real_eq m c hpre) (count_ne m c hpre)).symm

include hpre in
theorem total_eq (j : ReferenceIdeal.S_.Idx) :
    ReferenceIdeal.Read.val_main_v73 (F := Ideal) (KernelIdeal.Image.feats m c) (KernelIdeal.Image.words m c) j
      = KernelIdeal.Image.totalOut m c := by
  rw [ReferenceIdeal.Image.v73_at, variance_eq m c hpre, distance_eq m c hpre, norm_eq m c hpre, KernelIdeal.Image.total_at]

include hpre in
theorem means_eq :
    ReferenceIdeal.Read.val_main_v7 (F := Ideal) (KernelIdeal.Image.feats m c) (KernelIdeal.Image.words m c)
      = KernelIdeal.Body.means m c := by
  funext i
  obtain ⟨n, ch, k, rfl⟩ : ∃ (n : Fin 4) (ch : Fin 64) (k : Fin 8), i = ix3 n ch k :=
    ⟨i 0, i 1, i 2, by funext a; match a with | ⟨0, _⟩ => rfl | ⟨1, _⟩ => rfl | ⟨2, _⟩ => rfl⟩
  exact (ReferenceIdeal.Image.mean_at _ _ (real m c) (real_eq m c hpre) (count_ne m c hpre) n ch k).trans
    (KernelIdeal.Image.means_at m c (real m c) (real_eq m c hpre) (count_ne m c hpre) n ch k).symm

end Values

/-- The five results are equal. -/
theorem algebraic : algebraic_KernelIdeal_ReferenceIdeal_pre_finite_and_every_cluster_met := by
  intro m g m' g' hpre hargs
  refine ⟨fun c => fun _ => KernelIdeal.Image.totalOut m c, fun c => fun _ => KernelIdeal.Image.varianceOut m c,
    fun c => fun _ => KernelIdeal.Image.distanceOut m c, fun c => fun _ => KernelIdeal.Image.normOut m c,
    fun c => KernelIdeal.Body.means m c, KernelIdeal.Body.run m g, ?_⟩
  refine (θ_run (ReferenceIdeal.defs (F := Ideal)) _ _).mono (fun r h c => ?_) (ReferenceIdeal.Value.run m' g')
  obtain ⟨a0, a1⟩ := hargs c
  obtain ⟨h0, h1, h2, h3, h4, h5, h6⟩ := h c
  refine ⟨h0.trans ?_, h1.trans ?_, h2.trans ?_, h3.trans ?_, h4.trans ?_, h5, h6⟩
  · rw [ReferenceIdeal.Read.val_main_v73_eq, a0, a1]
    exact funext fun j => total_eq m c hpre j
  · rw [ReferenceIdeal.Read.val_main_v64_eq, a0, a1]
    exact funext fun j => variance_eq m c hpre j
  · rw [ReferenceIdeal.Read.val_main_v66_eq, a0, a1]
    exact funext fun j => distance_eq m c hpre j
  · refine (ReferenceIdeal.Read.val_main_v68_eq _ _).trans ?_
    rw [a0, a1]
    exact funext fun j => norm_eq m c hpre j
  · refine (ReferenceIdeal.Read.val_main_v7_eq _ _).trans ?_
    rw [a0, a1]
    exact means_eq m c hpre

theorem claim : Cert.Claim :=
  ⟨Cert.Kernel.Gen.facts, Cert.KernelIdeal.Gen.facts, Cert.ReferenceIdeal.Gen.facts,
    Cert.Pre_finite_and_every_cluster_met.Gen.facts, fun m ρ _ => Cert.Kernel.Gen.frame m ρ,
    fun m ρ _ => Cert.KernelIdeal.Gen.frame m ρ, fun m ρ _ => Cert.KernelIdeal.Gen.frame m ρ,
    fun m ρ _ => frame_reference m ρ, fun m ρ _ => frame_reference m ρ, trivial, algebraic⟩

end Cert.Proof

end
